-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S1280x1024 : Shape := ⟨2, ![1280, 1024]⟩
abbrev S5 : Shape := ⟨1, ![5]⟩
abbrev S6 : Shape := ⟨1, ![6]⟩
abbrev S8 : Shape := ⟨1, ![8]⟩
abbrev S1 : Shape := ⟨1, ![1]⟩
abbrev S_ : Shape := ⟨0, ![]⟩
abbrev S256x1024 : Shape := ⟨2, ![256, 1024]⟩
abbrev S1x256x1024 : Shape := ⟨3, ![1, 256, 1024]⟩
abbrev S512x1024 : Shape := ⟨2, ![512, 1024]⟩
abbrev S1x512x1024 : Shape := ⟨3, ![1, 512, 1024]⟩
abbrev S128x1024 : Shape := ⟨2, ![128, 1024]⟩
abbrev S768x1024 : Shape := ⟨2, ![768, 1024]⟩
abbrev S384x1024 : Shape := ⟨2, ![384, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .bf16⟩
  | .local _ .vmem, ⟨1, _⟩ => ⟨S1280x1024, .f32⟩
  | .local _ .vmem, ⟨2, _⟩ => ⟨S1280x1024, .bf16⟩
  | .local _ .vmem, ⟨3, _⟩ => ⟨S4096x1024, .f32⟩
  | .local _ .vmem, ⟨4, _⟩ => ⟨S4096x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32_71 : BitVec 32) : Fin 3 → Nat :=
  let c0_i32_72 : BitVec 32 := 0#32
  let c768_i32 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v148 : BitVec 32 := Scalar.muli c768_i32 v21
  let v149 : BitVec 32 := Scalar.addi v148 c0_i32_71
  let c1_i32_69 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.subi c1_i32_69 v5
  let c1024_i32 : BitVec 32 := 1024#32
  let v146 : BitVec 32 := Scalar.muli v145 c1024_i32
  ![0, v149.toNat, v146.toNat]
def k0_off2 (d0 : Dev nD) (c0_i32_88 : BitVec 32) : Fin 3 → Nat :=
  let c0_i32_89 : BitVec 32 := 0#32
  let c3072_i32 : BitVec 32 := 3072#32
  let c0_i32_86 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v169 : BitVec 32 := Scalar.muli c0_i32_86 v31
  let v170 : BitVec 32 := Scalar.addi c3072_i32 v169
  let c512_i32_87 : BitVec 32 := 512#32
  let v171 : BitVec 32 := Scalar.muli c512_i32_87 v31
  let v172 : BitVec 32 := Scalar.addi v170 v171
  let v173 : BitVec 32 := Scalar.addi v172 c0_i32_88
  let c1_i32_69 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.subi c1_i32_69 v5
  let c1024_i32 : BitVec 32 := 1024#32
  let v146 : BitVec 32 := Scalar.muli v145 c1024_i32
  ![0, v173.toNat, v146.toNat]
def k0_off3 (d0 : Dev nD) : Fin 3 → Nat :=
  let c0_i32_101 : BitVec 32 := 0#32
  let c0_i32_105 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 0, v147.toNat]
def k0_off4 (d0 : Dev nD) : Fin 3 → Nat :=
  let c0_i32_106 : BitVec 32 := 0#32
  let c512_i32_110 : BitVec 32 := 512#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 512, v147.toNat]
def k0_off5 (d0 : Dev nD) : Fin 3 → Nat :=
  let c0_i32_111 : BitVec 32 := 0#32
  let c1024_i32_115 : BitVec 32 := 1024#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 1024, v147.toNat]
def k0_off6 (d0 : Dev nD) : Fin 3 → Nat :=
  let c0_i32_116 : BitVec 32 := 0#32
  let c1536_i32_119 : BitVec 32 := 1536#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 1536, v147.toNat]
def k0_off7 (d0 : Dev nD) : Fin 3 → Nat :=
  let c0_i32_120 : BitVec 32 := 0#32
  let c2048_i32_123 : BitVec 32 := 2048#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 2048, v147.toNat]
def k0_off8 (d0 : Dev nD) : Fin 3 → Nat :=
  let c0_i32_124 : BitVec 32 := 0#32
  let c2560_i32_126 : BitVec 32 := 2560#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 2560, v147.toNat]
def k0_off9 (d0 : Dev nD) : Fin 3 → Nat :=
  let c0_i32_127 : BitVec 32 := 0#32
  let c3072_i32_130 : BitVec 32 := 3072#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 3072, v147.toNat]
def k0_off10 (d0 : Dev nD) : Fin 3 → Nat :=
  let c0_i32_131 : BitVec 32 := 0#32
  let c3584_i32_133 : BitVec 32 := 3584#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_70 : BitVec 32 := 1024#32
  let v147 : BitVec 32 := Scalar.muli v5 c1024_i32_70
  ![0, 3584, v147.toNat]
def k0_dev1 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v230 : BitVec 32 := Scalar.muli v2 c4_i32_135
  let v231 : BitVec 32 := Scalar.addi c0_i32_136 v230
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_137 : BitVec 32 := 2#32
  let v232 : BitVec 32 := Scalar.muli v32 c2_i32_137
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v234 : BitVec 32 := Scalar.muli v8 c1_i32_138
  let v235 : BitVec 32 := Scalar.addi v233 v234
  v235.toNat
def k0_dev2 (d0 : Dev nD) : Nat :=
  let c0_i32_141 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_140 : BitVec 32 := 4#32
  let v236 : BitVec 32 := Scalar.muli v71 c4_i32_140
  let v237 : BitVec 32 := Scalar.addi c0_i32_141 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v238 : BitVec 32 := Scalar.muli v5 c2_i32_142
  let v239 : BitVec 32 := Scalar.addi v237 v238
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_143 : BitVec 32 := 1#32
  let v240 : BitVec 32 := Scalar.muli v88 c1_i32_143
  let v241 : BitVec 32 := Scalar.addi v239 v240
  v241.toNat
def k0_dev3 (d0 : Dev nD) : Nat :=
  let c0_i32_146 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_145 : BitVec 32 := 4#32
  let v242 : BitVec 32 := Scalar.muli v127 c4_i32_145
  let v243 : BitVec 32 := Scalar.addi c0_i32_146 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v244 : BitVec 32 := Scalar.muli v5 c2_i32_147
  let v245 : BitVec 32 := Scalar.addi v243 v244
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_148 : BitVec 32 := 1#32
  let v246 : BitVec 32 := Scalar.muli v144 c1_i32_148
  let v247 : BitVec 32 := Scalar.addi v245 v246
  v247.toNat
def k0_off11 (d0 : Dev nD) (c0_i32_151 : BitVec 32) : Fin 2 → Nat :=
  let c768_i32_150 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v248 : BitVec 32 := Scalar.muli c768_i32_150 v21
  let v249 : BitVec 32 := Scalar.addi v248 c0_i32_151
  let c0_i32_322 : BitVec 32 := 0#32
  ![v249.toNat, 0]
def k0_dev4 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v480 : BitVec 32 := Scalar.muli v2 c4_i32_318
  let v481 : BitVec 32 := Scalar.addi c0_i32_319 v480
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_320 : BitVec 32 := 2#32
  let v482 : BitVec 32 := Scalar.muli v32 c2_i32_320
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_321 : BitVec 32 := 1#32
  let v484 : BitVec 32 := Scalar.muli v8 c1_i32_321
  let v485 : BitVec 32 := Scalar.addi v483 v484
  v485.toNat
def k0_dev5 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v502 : BitVec 32 := Scalar.muli v2 c4_i32_334
  let v503 : BitVec 32 := Scalar.addi c0_i32_335 v502
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_336 : BitVec 32 := 2#32
  let v504 : BitVec 32 := Scalar.muli v32 c2_i32_336
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v506 : BitVec 32 := Scalar.muli v8 c1_i32_337
  let v507 : BitVec 32 := Scalar.addi v505 v506
  v507.toNat
def k0_dev6 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v524 : BitVec 32 := Scalar.muli v2 c4_i32_350
  let v525 : BitVec 32 := Scalar.addi c0_i32_351 v524
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_352 : BitVec 32 := 2#32
  let v526 : BitVec 32 := Scalar.muli v32 c2_i32_352
  let v527 : BitVec 32 := Scalar.addi v525 v526
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v528 : BitVec 32 := Scalar.muli v8 c1_i32_353
  let v529 : BitVec 32 := Scalar.addi v527 v528
  v529.toNat
def k0_off12 (d0 : Dev nD) (c0_i32_159 : BitVec 32) : Fin 2 → Nat :=
  let c3072_i32_157 : BitVec 32 := 3072#32
  let c0_i32_156 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v254 : BitVec 32 := Scalar.muli c0_i32_156 v31
  let v255 : BitVec 32 := Scalar.addi c3072_i32_157 v254
  let c512_i32_158 : BitVec 32 := 512#32
  let v256 : BitVec 32 := Scalar.muli c512_i32_158 v31
  let v257 : BitVec 32 := Scalar.addi v255 v256
  let v258 : BitVec 32 := Scalar.addi v257 c0_i32_159
  let c0_i32_370 : BitVec 32 := 0#32
  ![v258.toNat, 0]
def k0_dev7 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v546 : BitVec 32 := Scalar.muli v2 c4_i32_366
  let v547 : BitVec 32 := Scalar.addi c0_i32_367 v546
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_368 : BitVec 32 := 2#32
  let v548 : BitVec 32 := Scalar.muli v32 c2_i32_368
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v550 : BitVec 32 := Scalar.muli v8 c1_i32_369
  let v551 : BitVec 32 := Scalar.addi v549 v550
  v551.toNat
def k0_dev8 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v568 : BitVec 32 := Scalar.muli v2 c4_i32_382
  let v569 : BitVec 32 := Scalar.addi c0_i32_383 v568
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_15 v5
  let c2_i32_384 : BitVec 32 := 2#32
  let v570 : BitVec 32 := Scalar.muli v32 c2_i32_384
  let v571 : BitVec 32 := Scalar.addi v569 v570
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v572 : BitVec 32 := Scalar.muli v8 c1_i32_385
  let v573 : BitVec 32 := Scalar.addi v571 v572
  v573.toNat
def k0_dev9 (d0 : Dev nD) : Nat :=
  let c0_i32_401 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_400 : BitVec 32 := 4#32
  let v590 : BitVec 32 := Scalar.muli v71 c4_i32_400
  let v591 : BitVec 32 := Scalar.addi c0_i32_401 v590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v592 : BitVec 32 := Scalar.muli v5 c2_i32_402
  let v593 : BitVec 32 := Scalar.addi v591 v592
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_403 : BitVec 32 := 1#32
  let v594 : BitVec 32 := Scalar.muli v88 c1_i32_403
  let v595 : BitVec 32 := Scalar.addi v593 v594
  v595.toNat
def k0_dev10 (d0 : Dev nD) : Nat :=
  let c0_i32_409 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_408 : BitVec 32 := 4#32
  let v602 : BitVec 32 := Scalar.muli v127 c4_i32_408
  let v603 : BitVec 32 := Scalar.addi c0_i32_409 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v604 : BitVec 32 := Scalar.muli v5 c2_i32_410
  let v605 : BitVec 32 := Scalar.addi v603 v604
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_411 : BitVec 32 := 1#32
  let v606 : BitVec 32 := Scalar.muli v144 c1_i32_411
  let v607 : BitVec 32 := Scalar.addi v605 v606
  v607.toNat
def k0_dev11 (d0 : Dev nD) : Nat :=
  let c0_i32_426 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_425 : BitVec 32 := 4#32
  let v624 : BitVec 32 := Scalar.muli v71 c4_i32_425
  let v625 : BitVec 32 := Scalar.addi c0_i32_426 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v626 : BitVec 32 := Scalar.muli v5 c2_i32_427
  let v627 : BitVec 32 := Scalar.addi v625 v626
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_428 : BitVec 32 := 1#32
  let v628 : BitVec 32 := Scalar.muli v88 c1_i32_428
  let v629 : BitVec 32 := Scalar.addi v627 v628
  v629.toNat
def k0_dev12 (d0 : Dev nD) : Nat :=
  let c0_i32_434 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_433 : BitVec 32 := 4#32
  let v636 : BitVec 32 := Scalar.muli v127 c4_i32_433
  let v637 : BitVec 32 := Scalar.addi c0_i32_434 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v638 : BitVec 32 := Scalar.muli v5 c2_i32_435
  let v639 : BitVec 32 := Scalar.addi v637 v638
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_436 : BitVec 32 := 1#32
  let v640 : BitVec 32 := Scalar.muli v144 c1_i32_436
  let v641 : BitVec 32 := Scalar.addi v639 v640
  v641.toNat
def k0_dev13 (d0 : Dev nD) : Nat :=
  let c0_i32_451 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_450 : BitVec 32 := 4#32
  let v658 : BitVec 32 := Scalar.muli v71 c4_i32_450
  let v659 : BitVec 32 := Scalar.addi c0_i32_451 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_452 : BitVec 32 := 2#32
  let v660 : BitVec 32 := Scalar.muli v5 c2_i32_452
  let v661 : BitVec 32 := Scalar.addi v659 v660
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_453 : BitVec 32 := 1#32
  let v662 : BitVec 32 := Scalar.muli v88 c1_i32_453
  let v663 : BitVec 32 := Scalar.addi v661 v662
  v663.toNat
def k0_dev14 (d0 : Dev nD) : Nat :=
  let c0_i32_459 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_458 : BitVec 32 := 4#32
  let v670 : BitVec 32 := Scalar.muli v127 c4_i32_458
  let v671 : BitVec 32 := Scalar.addi c0_i32_459 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v672 : BitVec 32 := Scalar.muli v5 c2_i32_460
  let v673 : BitVec 32 := Scalar.addi v671 v672
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_461 : BitVec 32 := 1#32
  let v674 : BitVec 32 := Scalar.muli v144 c1_i32_461
  let v675 : BitVec 32 := Scalar.addi v673 v674
  v675.toNat
def k0_off13 (d0 : Dev nD) (c3_i32_164 : BitVec 32) (c0_i32_174 : BitVec 32) : Fin 2 → Nat :=
  let c768_i32_173 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v264 : BitVec 32 := Scalar.addi v21 c3_i32_164
  let c4_i32_165 : BitVec 32 := 4#32
  let c0_i32_166 : BitVec 32 := 0#32
  let v265 : BitVec 1 := Scalar.cmpi .eq c4_i32_165 c0_i32_166
  let c1_i32_167 : BitVec 32 := 1#32
  let v266 : BitVec 32 := Scalar.select v265 c1_i32_167 c4_i32_165
  let v267 : BitVec 32 := Scalar.remsi v264 v266
  let c0_i32_169 : BitVec 32 := 0#32
  let v269 : BitVec 1 := Scalar.cmpi .slt v267 c0_i32_169
  let c0_i32_170 : BitVec 32 := 0#32
  let v270 : BitVec 1 := Scalar.cmpi .slt v266 c0_i32_170
  let v271 : BitVec 1 := Scalar.xori v269 v270
  let c0_i32_168 : BitVec 32 := 0#32
  let v268 : BitVec 1 := Scalar.cmpi .ne v267 c0_i32_168
  let v272 : BitVec 1 := Scalar.andi v271 v268
  let v273 : BitVec 32 := Scalar.addi v267 v266
  let v274 : BitVec 32 := Scalar.select v272 v273 v267
  let v277 : BitVec 32 := Scalar.muli c768_i32_173 v274
  let v278 : BitVec 32 := Scalar.addi v277 c0_i32_174
  let c0_i32_470 : BitVec 32 := 0#32
  ![v278.toNat, 0]
def k0_off14 (d0 : Dev nD) : Fin 2 → Nat :=
  let c768_i32_190 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32_183 : BitVec 32 := 3#32
  let v287 : BitVec 32 := Scalar.addi v21 c3_i32_183
  let c4_i32_184 : BitVec 32 := 4#32
  let c0_i32_185 : BitVec 32 := 0#32
  let v288 : BitVec 1 := Scalar.cmpi .eq c4_i32_184 c0_i32_185
  let c1_i32_186 : BitVec 32 := 1#32
  let v289 : BitVec 32 := Scalar.select v288 c1_i32_186 c4_i32_184
  let v290 : BitVec 32 := Scalar.remsi v287 v289
  let c0_i32_188 : BitVec 32 := 0#32
  let v292 : BitVec 1 := Scalar.cmpi .slt v290 c0_i32_188
  let c0_i32_189 : BitVec 32 := 0#32
  let v293 : BitVec 1 := Scalar.cmpi .slt v289 c0_i32_189
  let v294 : BitVec 1 := Scalar.xori v292 v293
  let c0_i32_187 : BitVec 32 := 0#32
  let v291 : BitVec 1 := Scalar.cmpi .ne v290 c0_i32_187
  let v295 : BitVec 1 := Scalar.andi v294 v291
  let v296 : BitVec 32 := Scalar.addi v290 v289
  let v297 : BitVec 32 := Scalar.select v295 v296 v290
  let v298 : BitVec 32 := Scalar.muli c768_i32_190 v297
  let c0_i32_478 : BitVec 32 := 0#32
  ![v298.toNat, 0]
def k0_dev15 (d0 : Dev nD) : Nat :=
  let c0_i32_475 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_474 : BitVec 32 := 4#32
  let v692 : BitVec 32 := Scalar.muli v71 c4_i32_474
  let v693 : BitVec 32 := Scalar.addi c0_i32_475 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v694 : BitVec 32 := Scalar.muli v5 c2_i32_476
  let v695 : BitVec 32 := Scalar.addi v693 v694
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_477 : BitVec 32 := 1#32
  let v696 : BitVec 32 := Scalar.muli v88 c1_i32_477
  let v697 : BitVec 32 := Scalar.addi v695 v696
  v697.toNat
def k0_off15 (d0 : Dev nD) (c3_i32_199 : BitVec 32) (c256_i32_207 : BitVec 32) : Fin 2 → Nat :=
  let c768_i32_206 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v311 : BitVec 32 := Scalar.addi v21 c3_i32_199
  let c4_i32_200 : BitVec 32 := 4#32
  let c0_i32_201 : BitVec 32 := 0#32
  let v312 : BitVec 1 := Scalar.cmpi .eq c4_i32_200 c0_i32_201
  let c1_i32_202 : BitVec 32 := 1#32
  let v313 : BitVec 32 := Scalar.select v312 c1_i32_202 c4_i32_200
  let v314 : BitVec 32 := Scalar.remsi v311 v313
  let c0_i32_204 : BitVec 32 := 0#32
  let v316 : BitVec 1 := Scalar.cmpi .slt v314 c0_i32_204
  let c0_i32_205 : BitVec 32 := 0#32
  let v317 : BitVec 1 := Scalar.cmpi .slt v313 c0_i32_205
  let v318 : BitVec 1 := Scalar.xori v316 v317
  let c0_i32_203 : BitVec 32 := 0#32
  let v315 : BitVec 1 := Scalar.cmpi .ne v314 c0_i32_203
  let v319 : BitVec 1 := Scalar.andi v318 v315
  let v320 : BitVec 32 := Scalar.addi v314 v313
  let v321 : BitVec 32 := Scalar.select v319 v320 v314
  let v322 : BitVec 32 := Scalar.muli c768_i32_206 v321
  let v323 : BitVec 32 := Scalar.addi v322 c256_i32_207
  let c0_i32_494 : BitVec 32 := 0#32
  ![v323.toNat, 0]
def k0_off15_at (r : Fin 2) : BitVec 32 × BitVec 32 :=
  if r.val < 1 then
    (3#32, 256#32)
  else
    (1#32, 384#32)
def k0_dev16 (d0 : Dev nD) : Nat :=
  let c0_i32_491 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_490 : BitVec 32 := 4#32
  let v714 : BitVec 32 := Scalar.muli v71 c4_i32_490
  let v715 : BitVec 32 := Scalar.addi c0_i32_491 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v716 : BitVec 32 := Scalar.muli v5 c2_i32_492
  let v717 : BitVec 32 := Scalar.addi v715 v716
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_493 : BitVec 32 := 1#32
  let v718 : BitVec 32 := Scalar.muli v88 c1_i32_493
  let v719 : BitVec 32 := Scalar.addi v717 v718
  v719.toNat
def k0_dev17 (d0 : Dev nD) : Nat :=
  let c0_i32_507 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_506 : BitVec 32 := 4#32
  let v736 : BitVec 32 := Scalar.muli v127 c4_i32_506
  let v737 : BitVec 32 := Scalar.addi c0_i32_507 v736
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v738 : BitVec 32 := Scalar.muli v5 c2_i32_508
  let v739 : BitVec 32 := Scalar.addi v737 v738
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_509 : BitVec 32 := 1#32
  let v740 : BitVec 32 := Scalar.muli v144 c1_i32_509
  let v741 : BitVec 32 := Scalar.addi v739 v740
  v741.toNat
def k0_dev18 (d0 : Dev nD) : Nat :=
  let c0_i32_523 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_522 : BitVec 32 := 4#32
  let v758 : BitVec 32 := Scalar.muli v127 c4_i32_522
  let v759 : BitVec 32 := Scalar.addi c0_i32_523 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_524 : BitVec 32 := 2#32
  let v760 : BitVec 32 := Scalar.muli v5 c2_i32_524
  let v761 : BitVec 32 := Scalar.addi v759 v760
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_525 : BitVec 32 := 1#32
  let v762 : BitVec 32 := Scalar.muli v144 c1_i32_525
  let v763 : BitVec 32 := Scalar.addi v761 v762
  v763.toNat
def k0_off16 (d0 : Dev nD) : Fin 2 → Nat :=
  let c3072_i32_224 : BitVec 32 := 3072#32
  let c0_i32_223 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_217 : BitVec 32 := 2#32
  let c0_i32_218 : BitVec 32 := 0#32
  let v337 : BitVec 1 := Scalar.cmpi .eq c2_i32_217 c0_i32_218
  let c1_i32_219 : BitVec 32 := 1#32
  let v338 : BitVec 32 := Scalar.select v337 c1_i32_219 c2_i32_217
  let v339 : BitVec 32 := Scalar.remsi v21 v338
  let c0_i32_221 : BitVec 32 := 0#32
  let v341 : BitVec 1 := Scalar.cmpi .slt v339 c0_i32_221
  let c0_i32_222 : BitVec 32 := 0#32
  let v342 : BitVec 1 := Scalar.cmpi .slt v338 c0_i32_222
  let v343 : BitVec 1 := Scalar.xori v341 v342
  let c0_i32_220 : BitVec 32 := 0#32
  let v340 : BitVec 1 := Scalar.cmpi .ne v339 c0_i32_220
  let v344 : BitVec 1 := Scalar.andi v343 v340
  let v345 : BitVec 32 := Scalar.addi v339 v338
  let v346 : BitVec 32 := Scalar.select v344 v345 v339
  let v347 : BitVec 32 := Scalar.muli c0_i32_223 v346
  let v348 : BitVec 32 := Scalar.addi c3072_i32_224 v347
  let c512_i32_225 : BitVec 32 := 512#32
  let v349 : BitVec 32 := Scalar.muli c512_i32_225 v346
  let v350 : BitVec 32 := Scalar.addi v348 v349
  let c0_i32_543 : BitVec 32 := 0#32
  ![v350.toNat, 0]
def k0_dev19 (d0 : Dev nD) : Nat :=
  let c0_i32_540 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_16 : BitVec 32 := 1#32
  let v33 : BitVec 32 := Scalar.addi v21 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32_23 : BitVec 32 := 2#32
  let c0_i32_26 : BitVec 32 := 0#32
  let v50 : BitVec 1 := Scalar.cmpi .sgt c2_i32_23 c0_i32_26
  let v51 : BitVec 32 := Scalar.extui v50
  let c0_i32_27 : BitVec 32 := 0#32
  let v52 : BitVec 1 := Scalar.cmpi .slt c2_i32_23 c0_i32_27
  let v53 : BitVec 32 := Scalar.extui v52
  let v54 : BitVec 32 := Scalar.subi v51 v53
  let v55 : BitVec 1 := Scalar.cmpi .ne v49 v54
  let v56 : BitVec 32 := Scalar.remsi v43 c2_i32_23
  let c0_i32_28 : BitVec 32 := 0#32
  let v57 : BitVec 1 := Scalar.cmpi .ne v56 c0_i32_28
  let v58 : BitVec 1 := Scalar.andi v55 v57
  let v44 : BitVec 32 := Scalar.divsi v43 c2_i32_23
  let c1_i32_29 : BitVec 32 := 1#32
  let v59 : BitVec 32 := Scalar.subi v44 c1_i32_29
  let v60 : BitVec 32 := Scalar.select v58 v59 v44
  let v61 : BitVec 32 := Scalar.addi v43 v60
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi v61 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c4_i32_539 : BitVec 32 := 4#32
  let v780 : BitVec 32 := Scalar.muli v71 c4_i32_539
  let v781 : BitVec 32 := Scalar.addi c0_i32_540 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v782 : BitVec 32 := Scalar.muli v5 c2_i32_541
  let v783 : BitVec 32 := Scalar.addi v781 v782
  let c0_i32_37 : BitVec 32 := 0#32
  let v73 : BitVec 1 := Scalar.cmpi .sgt v43 c0_i32_37
  let v74 : BitVec 32 := Scalar.extui v73
  let c0_i32_38 : BitVec 32 := 0#32
  let v75 : BitVec 1 := Scalar.cmpi .slt v43 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v43 c2_i32_36
  let c0_i32_41 : BitVec 32 := 0#32
  let v85 : BitVec 1 := Scalar.cmpi .ne v84 c0_i32_41
  let v86 : BitVec 1 := Scalar.andi v83 v85
  let v72 : BitVec 32 := Scalar.divsi v43 c2_i32_36
  let c1_i32_42 : BitVec 32 := 1#32
  let v87 : BitVec 32 := Scalar.subi v72 c1_i32_42
  let v88 : BitVec 32 := Scalar.select v86 v87 v72
  let c1_i32_542 : BitVec 32 := 1#32
  let v784 : BitVec 32 := Scalar.muli v88 c1_i32_542
  let v785 : BitVec 32 := Scalar.addi v783 v784
  v785.toNat
def k0_dev20 (d0 : Dev nD) : Nat :=
  let c0_i32_557 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v89 : BitVec 32 := Scalar.addi v21 c3_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c0_i32_50 : BitVec 32 := 0#32
  let v101 : BitVec 1 := Scalar.cmpi .sgt v99 c0_i32_50
  let v102 : BitVec 32 := Scalar.extui v101
  let c0_i32_51 : BitVec 32 := 0#32
  let v103 : BitVec 1 := Scalar.cmpi .slt v99 c0_i32_51
  let v104 : BitVec 32 := Scalar.extui v103
  let v105 : BitVec 32 := Scalar.subi v102 v104
  let c2_i32_49 : BitVec 32 := 2#32
  let c0_i32_52 : BitVec 32 := 0#32
  let v106 : BitVec 1 := Scalar.cmpi .sgt c2_i32_49 c0_i32_52
  let v107 : BitVec 32 := Scalar.extui v106
  let c0_i32_53 : BitVec 32 := 0#32
  let v108 : BitVec 1 := Scalar.cmpi .slt c2_i32_49 c0_i32_53
  let v109 : BitVec 32 := Scalar.extui v108
  let v110 : BitVec 32 := Scalar.subi v107 v109
  let v111 : BitVec 1 := Scalar.cmpi .ne v105 v110
  let v112 : BitVec 32 := Scalar.remsi v99 c2_i32_49
  let c0_i32_54 : BitVec 32 := 0#32
  let v113 : BitVec 1 := Scalar.cmpi .ne v112 c0_i32_54
  let v114 : BitVec 1 := Scalar.andi v111 v113
  let v100 : BitVec 32 := Scalar.divsi v99 c2_i32_49
  let c1_i32_55 : BitVec 32 := 1#32
  let v115 : BitVec 32 := Scalar.subi v100 c1_i32_55
  let v116 : BitVec 32 := Scalar.select v114 v115 v100
  let v117 : BitVec 32 := Scalar.addi v99 v116
  let c2_i32_56 : BitVec 32 := 2#32
  let c0_i32_57 : BitVec 32 := 0#32
  let v118 : BitVec 1 := Scalar.cmpi .eq c2_i32_56 c0_i32_57
  let c1_i32_58 : BitVec 32 := 1#32
  let v119 : BitVec 32 := Scalar.select v118 c1_i32_58 c2_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c4_i32_556 : BitVec 32 := 4#32
  let v802 : BitVec 32 := Scalar.muli v127 c4_i32_556
  let v803 : BitVec 32 := Scalar.addi c0_i32_557 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_558 : BitVec 32 := 2#32
  let v804 : BitVec 32 := Scalar.muli v5 c2_i32_558
  let v805 : BitVec 32 := Scalar.addi v803 v804
  let c0_i32_63 : BitVec 32 := 0#32
  let v129 : BitVec 1 := Scalar.cmpi .sgt v99 c0_i32_63
  let v130 : BitVec 32 := Scalar.extui v129
  let c0_i32_64 : BitVec 32 := 0#32
  let v131 : BitVec 1 := Scalar.cmpi .slt v99 c0_i32_64
  let v132 : BitVec 32 := Scalar.extui v131
  let v133 : BitVec 32 := Scalar.subi v130 v132
  let c2_i32_62 : BitVec 32 := 2#32
  let c0_i32_65 : BitVec 32 := 0#32
  let v134 : BitVec 1 := Scalar.cmpi .sgt c2_i32_62 c0_i32_65
  let v135 : BitVec 32 := Scalar.extui v134
  let c0_i32_66 : BitVec 32 := 0#32
  let v136 : BitVec 1 := Scalar.cmpi .slt c2_i32_62 c0_i32_66
  let v137 : BitVec 32 := Scalar.extui v136
  let v138 : BitVec 32 := Scalar.subi v135 v137
  let v139 : BitVec 1 := Scalar.cmpi .ne v133 v138
  let v140 : BitVec 32 := Scalar.remsi v99 c2_i32_62
  let c0_i32_67 : BitVec 32 := 0#32
  let v141 : BitVec 1 := Scalar.cmpi .ne v140 c0_i32_67
  let v142 : BitVec 1 := Scalar.andi v139 v141
  let v128 : BitVec 32 := Scalar.divsi v99 c2_i32_62
  let c1_i32_68 : BitVec 32 := 1#32
  let v143 : BitVec 32 := Scalar.subi v128 c1_i32_68
  let v144 : BitVec 32 := Scalar.select v142 v143 v128
  let c1_i32_559 : BitVec 32 := 1#32
  let v806 : BitVec 32 := Scalar.muli v144 c1_i32_559
  let v807 : BitVec 32 := Scalar.addi v805 v806
  v807.toNat
def k0_off17 (d0 : Dev nD) : Fin 2 → Nat :=
  let c768_i32_602 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v854 : BitVec 32 := Scalar.muli c768_i32_602 v21
  let v855 : Index := Scalar.indexCast v854
  let c0_603 : Index := 0#32
  ![v855.toNat, 0]
def k0_off18 (d0 : Dev nD) : Fin 2 → Nat :=
  let c768_i32_602 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v854 : BitVec 32 := Scalar.muli c768_i32_602 v21
  let c0_i32_607 : BitVec 32 := 0#32
  ![v854.toNat, 0]
def k0_off19 (d0 : Dev nD) : Fin 2 → Nat :=
  let c3072_i32_610 : BitVec 32 := 3072#32
  let c0_i32_609 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v869 : BitVec 32 := Scalar.muli c0_i32_609 v31
  let v870 : BitVec 32 := Scalar.addi c3072_i32_610 v869
  let c512_i32_611 : BitVec 32 := 512#32
  let v871 : BitVec 32 := Scalar.muli c512_i32_611 v31
  let v872 : BitVec 32 := Scalar.addi v870 v871
  let v873 : Index := Scalar.indexCast v872
  let c0_612 : Index := 0#32
  ![v873.toNat, 0]
def k0_off20 (d0 : Dev nD) : Fin 2 → Nat :=
  let c3072_i32_610 : BitVec 32 := 3072#32
  let c0_i32_609 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v869 : BitVec 32 := Scalar.muli c0_i32_609 v31
  let v870 : BitVec 32 := Scalar.addi c3072_i32_610 v869
  let c512_i32_611 : BitVec 32 := 512#32
  let v871 : BitVec 32 := Scalar.muli c512_i32_611 v31
  let v872 : BitVec 32 := Scalar.addi v870 v871
  let c0_i32_616 : BitVec 32 := 0#32
  ![v872.toNat, 0]
def k0_off21 (d0 : Dev nD) (c3_i32_626 : BitVec 32) : Fin 2 → Nat :=
  let c768_i32_633 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v897 : BitVec 32 := Scalar.addi v21 c3_i32_626
  let c4_i32_627 : BitVec 32 := 4#32
  let c0_i32_628 : BitVec 32 := 0#32
  let v898 : BitVec 1 := Scalar.cmpi .eq c4_i32_627 c0_i32_628
  let c1_i32_629 : BitVec 32 := 1#32
  let v899 : BitVec 32 := Scalar.select v898 c1_i32_629 c4_i32_627
  let v900 : BitVec 32 := Scalar.remsi v897 v899
  let c0_i32_631 : BitVec 32 := 0#32
  let v902 : BitVec 1 := Scalar.cmpi .slt v900 c0_i32_631
  let c0_i32_632 : BitVec 32 := 0#32
  let v903 : BitVec 1 := Scalar.cmpi .slt v899 c0_i32_632
  let v904 : BitVec 1 := Scalar.xori v902 v903
  let c0_i32_630 : BitVec 32 := 0#32
  let v901 : BitVec 1 := Scalar.cmpi .ne v900 c0_i32_630
  let v905 : BitVec 1 := Scalar.andi v904 v901
  let v906 : BitVec 32 := Scalar.addi v900 v899
  let v907 : BitVec 32 := Scalar.select v905 v906 v900
  let v908 : BitVec 32 := Scalar.muli c768_i32_633 v907
  let v909 : Index := Scalar.indexCast v908
  let c0_634 : Index := 0#32
  ![v909.toNat, 0]
def k0_off22 (d0 : Dev nD) (c3_i32_626 : BitVec 32) : Fin 2 → Nat :=
  let c768_i32_633 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v897 : BitVec 32 := Scalar.addi v21 c3_i32_626
  let c4_i32_627 : BitVec 32 := 4#32
  let c0_i32_628 : BitVec 32 := 0#32
  let v898 : BitVec 1 := Scalar.cmpi .eq c4_i32_627 c0_i32_628
  let c1_i32_629 : BitVec 32 := 1#32
  let v899 : BitVec 32 := Scalar.select v898 c1_i32_629 c4_i32_627
  let v900 : BitVec 32 := Scalar.remsi v897 v899
  let c0_i32_631 : BitVec 32 := 0#32
  let v902 : BitVec 1 := Scalar.cmpi .slt v900 c0_i32_631
  let c0_i32_632 : BitVec 32 := 0#32
  let v903 : BitVec 1 := Scalar.cmpi .slt v899 c0_i32_632
  let v904 : BitVec 1 := Scalar.xori v902 v903
  let c0_i32_630 : BitVec 32 := 0#32
  let v901 : BitVec 1 := Scalar.cmpi .ne v900 c0_i32_630
  let v905 : BitVec 1 := Scalar.andi v904 v901
  let v906 : BitVec 32 := Scalar.addi v900 v899
  let v907 : BitVec 32 := Scalar.select v905 v906 v900
  let v908 : BitVec 32 := Scalar.muli c768_i32_633 v907
  let c0_i32_638 : BitVec 32 := 0#32
  ![v908.toNat, 0]
def k0_off23 (d0 : Dev nD) : Fin 2 → Nat :=
  let c768_i32_198 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32_164 : BitVec 32 := 3#32
  let v264 : BitVec 32 := Scalar.addi v21 c3_i32_164
  let c4_i32_165 : BitVec 32 := 4#32
  let c0_i32_166 : BitVec 32 := 0#32
  let v265 : BitVec 1 := Scalar.cmpi .eq c4_i32_165 c0_i32_166
  let c1_i32_167 : BitVec 32 := 1#32
  let v266 : BitVec 32 := Scalar.select v265 c1_i32_167 c4_i32_165
  let v267 : BitVec 32 := Scalar.remsi v264 v266
  let c0_i32_169 : BitVec 32 := 0#32
  let v269 : BitVec 1 := Scalar.cmpi .slt v267 c0_i32_169
  let c0_i32_170 : BitVec 32 := 0#32
  let v270 : BitVec 1 := Scalar.cmpi .slt v266 c0_i32_170
  let v271 : BitVec 1 := Scalar.xori v269 v270
  let c0_i32_168 : BitVec 32 := 0#32
  let v268 : BitVec 1 := Scalar.cmpi .ne v267 c0_i32_168
  let v272 : BitVec 1 := Scalar.andi v271 v268
  let v273 : BitVec 32 := Scalar.addi v267 v266
  let v274 : BitVec 32 := Scalar.select v272 v273 v267
  let c3_i32_191 : BitVec 32 := 3#32
  let v299 : BitVec 32 := Scalar.addi v274 c3_i32_191
  let c4_i32_192 : BitVec 32 := 4#32
  let c0_i32_193 : BitVec 32 := 0#32
  let v300 : BitVec 1 := Scalar.cmpi .eq c4_i32_192 c0_i32_193
  let c1_i32_194 : BitVec 32 := 1#32
  let v301 : BitVec 32 := Scalar.select v300 c1_i32_194 c4_i32_192
  let v302 : BitVec 32 := Scalar.remsi v299 v301
  let c0_i32_196 : BitVec 32 := 0#32
  let v304 : BitVec 1 := Scalar.cmpi .slt v302 c0_i32_196
  let c0_i32_197 : BitVec 32 := 0#32
  let v305 : BitVec 1 := Scalar.cmpi .slt v301 c0_i32_197
  let v306 : BitVec 1 := Scalar.xori v304 v305
  let c0_i32_195 : BitVec 32 := 0#32
  let v303 : BitVec 1 := Scalar.cmpi .ne v302 c0_i32_195
  let v307 : BitVec 1 := Scalar.andi v306 v303
  let v308 : BitVec 32 := Scalar.addi v302 v301
  let v309 : BitVec 32 := Scalar.select v307 v308 v302
  let v310 : BitVec 32 := Scalar.muli c768_i32_198 v309
  let c0_i32_668 : BitVec 32 := 0#32
  ![v310.toNat, 0]
def k0_off24 (d0 : Dev nD) (c3_i32_164 : BitVec 32) (c3_i32_208 : BitVec 32) (c256_i32_216 : BitVec 32) : Fin 2 → Nat :=
  let c768_i32_215 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let v264 : BitVec 32 := Scalar.addi v21 c3_i32_164
  let c4_i32_165 : BitVec 32 := 4#32
  let c0_i32_166 : BitVec 32 := 0#32
  let v265 : BitVec 1 := Scalar.cmpi .eq c4_i32_165 c0_i32_166
  let c1_i32_167 : BitVec 32 := 1#32
  let v266 : BitVec 32 := Scalar.select v265 c1_i32_167 c4_i32_165
  let v267 : BitVec 32 := Scalar.remsi v264 v266
  let c0_i32_169 : BitVec 32 := 0#32
  let v269 : BitVec 1 := Scalar.cmpi .slt v267 c0_i32_169
  let c0_i32_170 : BitVec 32 := 0#32
  let v270 : BitVec 1 := Scalar.cmpi .slt v266 c0_i32_170
  let v271 : BitVec 1 := Scalar.xori v269 v270
  let c0_i32_168 : BitVec 32 := 0#32
  let v268 : BitVec 1 := Scalar.cmpi .ne v267 c0_i32_168
  let v272 : BitVec 1 := Scalar.andi v271 v268
  let v273 : BitVec 32 := Scalar.addi v267 v266
  let v274 : BitVec 32 := Scalar.select v272 v273 v267
  let v324 : BitVec 32 := Scalar.addi v274 c3_i32_208
  let c4_i32_209 : BitVec 32 := 4#32
  let c0_i32_210 : BitVec 32 := 0#32
  let v325 : BitVec 1 := Scalar.cmpi .eq c4_i32_209 c0_i32_210
  let c1_i32_211 : BitVec 32 := 1#32
  let v326 : BitVec 32 := Scalar.select v325 c1_i32_211 c4_i32_209
  let v327 : BitVec 32 := Scalar.remsi v324 v326
  let c0_i32_213 : BitVec 32 := 0#32
  let v329 : BitVec 1 := Scalar.cmpi .slt v327 c0_i32_213
  let c0_i32_214 : BitVec 32 := 0#32
  let v330 : BitVec 1 := Scalar.cmpi .slt v326 c0_i32_214
  let v331 : BitVec 1 := Scalar.xori v329 v330
  let c0_i32_212 : BitVec 32 := 0#32
  let v328 : BitVec 1 := Scalar.cmpi .ne v327 c0_i32_212
  let v332 : BitVec 1 := Scalar.andi v331 v328
  let v333 : BitVec 32 := Scalar.addi v327 v326
  let v334 : BitVec 32 := Scalar.select v332 v333 v327
  let v335 : BitVec 32 := Scalar.muli c768_i32_215 v334
  let v336 : BitVec 32 := Scalar.addi v335 c256_i32_216
  let c0_i32_676 : BitVec 32 := 0#32
  ![v336.toNat, 0]
def k0_off24_at (r : Fin 2) : BitVec 32 × BitVec 32 × BitVec 32 :=
  if r.val < 1 then
    (3#32, 3#32, 256#32)
  else
    (1#32, 1#32, 384#32)
def k0_off25 (d0 : Dev nD) : Fin 2 → Nat :=
  let c768_i32_685 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_678 : BitVec 32 := 2#32
  let v979 : BitVec 32 := Scalar.addi v21 c2_i32_678
  let c4_i32_679 : BitVec 32 := 4#32
  let c0_i32_680 : BitVec 32 := 0#32
  let v980 : BitVec 1 := Scalar.cmpi .eq c4_i32_679 c0_i32_680
  let c1_i32_681 : BitVec 32 := 1#32
  let v981 : BitVec 32 := Scalar.select v980 c1_i32_681 c4_i32_679
  let v982 : BitVec 32 := Scalar.remsi v979 v981
  let c0_i32_683 : BitVec 32 := 0#32
  let v984 : BitVec 1 := Scalar.cmpi .slt v982 c0_i32_683
  let c0_i32_684 : BitVec 32 := 0#32
  let v985 : BitVec 1 := Scalar.cmpi .slt v981 c0_i32_684
  let v986 : BitVec 1 := Scalar.xori v984 v985
  let c0_i32_682 : BitVec 32 := 0#32
  let v983 : BitVec 1 := Scalar.cmpi .ne v982 c0_i32_682
  let v987 : BitVec 1 := Scalar.andi v986 v983
  let v988 : BitVec 32 := Scalar.addi v982 v981
  let v989 : BitVec 32 := Scalar.select v987 v988 v982
  let v990 : BitVec 32 := Scalar.muli c768_i32_685 v989
  let v991 : Index := Scalar.indexCast v990
  let c0_686 : Index := 0#32
  ![v991.toNat, 0]
def k0_off26 (d0 : Dev nD) : Fin 2 → Nat :=
  let c768_i32_685 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_678 : BitVec 32 := 2#32
  let v979 : BitVec 32 := Scalar.addi v21 c2_i32_678
  let c4_i32_679 : BitVec 32 := 4#32
  let c0_i32_680 : BitVec 32 := 0#32
  let v980 : BitVec 1 := Scalar.cmpi .eq c4_i32_679 c0_i32_680
  let c1_i32_681 : BitVec 32 := 1#32
  let v981 : BitVec 32 := Scalar.select v980 c1_i32_681 c4_i32_679
  let v982 : BitVec 32 := Scalar.remsi v979 v981
  let c0_i32_683 : BitVec 32 := 0#32
  let v984 : BitVec 1 := Scalar.cmpi .slt v982 c0_i32_683
  let c0_i32_684 : BitVec 32 := 0#32
  let v985 : BitVec 1 := Scalar.cmpi .slt v981 c0_i32_684
  let v986 : BitVec 1 := Scalar.xori v984 v985
  let c0_i32_682 : BitVec 32 := 0#32
  let v983 : BitVec 1 := Scalar.cmpi .ne v982 c0_i32_682
  let v987 : BitVec 1 := Scalar.andi v986 v983
  let v988 : BitVec 32 := Scalar.addi v982 v981
  let v989 : BitVec 32 := Scalar.select v987 v988 v982
  let v990 : BitVec 32 := Scalar.muli c768_i32_685 v989
  let c0_i32_690 : BitVec 32 := 0#32
  ![v990.toNat, 0]
def k0_off27 (d0 : Dev nD) : Fin 2 → Nat :=
  let c768_i32_287 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_235 : BitVec 32 := 1#32
  let v365 : BitVec 32 := Scalar.addi v21 c1_i32_235
  let c4_i32_236 : BitVec 32 := 4#32
  let c0_i32_237 : BitVec 32 := 0#32
  let v366 : BitVec 1 := Scalar.cmpi .eq c4_i32_236 c0_i32_237
  let c1_i32_238 : BitVec 32 := 1#32
  let v367 : BitVec 32 := Scalar.select v366 c1_i32_238 c4_i32_236
  let v368 : BitVec 32 := Scalar.remsi v365 v367
  let c0_i32_240 : BitVec 32 := 0#32
  let v370 : BitVec 1 := Scalar.cmpi .slt v368 c0_i32_240
  let c0_i32_241 : BitVec 32 := 0#32
  let v371 : BitVec 1 := Scalar.cmpi .slt v367 c0_i32_241
  let v372 : BitVec 1 := Scalar.xori v370 v371
  let c0_i32_239 : BitVec 32 := 0#32
  let v369 : BitVec 1 := Scalar.cmpi .ne v368 c0_i32_239
  let v373 : BitVec 1 := Scalar.andi v372 v369
  let v374 : BitVec 32 := Scalar.addi v368 v367
  let v375 : BitVec 32 := Scalar.select v373 v374 v368
  let c1_i32_280 : BitVec 32 := 1#32
  let v427 : BitVec 32 := Scalar.addi v375 c1_i32_280
  let c4_i32_281 : BitVec 32 := 4#32
  let c0_i32_282 : BitVec 32 := 0#32
  let v428 : BitVec 1 := Scalar.cmpi .eq c4_i32_281 c0_i32_282
  let c1_i32_283 : BitVec 32 := 1#32
  let v429 : BitVec 32 := Scalar.select v428 c1_i32_283 c4_i32_281
  let v430 : BitVec 32 := Scalar.remsi v427 v429
  let c0_i32_285 : BitVec 32 := 0#32
  let v432 : BitVec 1 := Scalar.cmpi .slt v430 c0_i32_285
  let c0_i32_286 : BitVec 32 := 0#32
  let v433 : BitVec 1 := Scalar.cmpi .slt v429 c0_i32_286
  let v434 : BitVec 1 := Scalar.xori v432 v433
  let c0_i32_284 : BitVec 32 := 0#32
  let v431 : BitVec 1 := Scalar.cmpi .ne v430 c0_i32_284
  let v435 : BitVec 1 := Scalar.andi v434 v431
  let v436 : BitVec 32 := Scalar.addi v430 v429
  let v437 : BitVec 32 := Scalar.select v435 v436 v430
  let v438 : BitVec 32 := Scalar.muli c768_i32_287 v437
  let c512_i32_288 : BitVec 32 := 512#32
  let v439 : BitVec 32 := Scalar.addi v438 c512_i32_288
  let c0_i32_706 : BitVec 32 := 0#32
  ![v439.toNat, 0]
def k0_off28 (d0 : Dev nD) : Fin 2 → Nat :=
  let c768_i32_715 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_708 : BitVec 32 := 2#32
  let v1025 : BitVec 32 := Scalar.addi v21 c2_i32_708
  let c4_i32_709 : BitVec 32 := 4#32
  let c0_i32_710 : BitVec 32 := 0#32
  let v1026 : BitVec 1 := Scalar.cmpi .eq c4_i32_709 c0_i32_710
  let c1_i32_711 : BitVec 32 := 1#32
  let v1027 : BitVec 32 := Scalar.select v1026 c1_i32_711 c4_i32_709
  let v1028 : BitVec 32 := Scalar.remsi v1025 v1027
  let c0_i32_713 : BitVec 32 := 0#32
  let v1030 : BitVec 1 := Scalar.cmpi .slt v1028 c0_i32_713
  let c0_i32_714 : BitVec 32 := 0#32
  let v1031 : BitVec 1 := Scalar.cmpi .slt v1027 c0_i32_714
  let v1032 : BitVec 1 := Scalar.xori v1030 v1031
  let c0_i32_712 : BitVec 32 := 0#32
  let v1029 : BitVec 1 := Scalar.cmpi .ne v1028 c0_i32_712
  let v1033 : BitVec 1 := Scalar.andi v1032 v1029
  let v1034 : BitVec 32 := Scalar.addi v1028 v1027
  let v1035 : BitVec 32 := Scalar.select v1033 v1034 v1028
  let v1036 : BitVec 32 := Scalar.muli c768_i32_715 v1035
  let c384_i32_716 : BitVec 32 := 384#32
  let v1037 : BitVec 32 := Scalar.addi v1036 c384_i32_716
  let v1038 : Index := Scalar.indexCast v1037
  let c0_717 : Index := 0#32
  ![v1038.toNat, 0]
def k0_off29 (d0 : Dev nD) : Fin 2 → Nat :=
  let c768_i32_715 : BitVec 32 := 768#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_708 : BitVec 32 := 2#32
  let v1025 : BitVec 32 := Scalar.addi v21 c2_i32_708
  let c4_i32_709 : BitVec 32 := 4#32
  let c0_i32_710 : BitVec 32 := 0#32
  let v1026 : BitVec 1 := Scalar.cmpi .eq c4_i32_709 c0_i32_710
  let c1_i32_711 : BitVec 32 := 1#32
  let v1027 : BitVec 32 := Scalar.select v1026 c1_i32_711 c4_i32_709
  let v1028 : BitVec 32 := Scalar.remsi v1025 v1027
  let c0_i32_713 : BitVec 32 := 0#32
  let v1030 : BitVec 1 := Scalar.cmpi .slt v1028 c0_i32_713
  let c0_i32_714 : BitVec 32 := 0#32
  let v1031 : BitVec 1 := Scalar.cmpi .slt v1027 c0_i32_714
  let v1032 : BitVec 1 := Scalar.xori v1030 v1031
  let c0_i32_712 : BitVec 32 := 0#32
  let v1029 : BitVec 1 := Scalar.cmpi .ne v1028 c0_i32_712
  let v1033 : BitVec 1 := Scalar.andi v1032 v1029
  let v1034 : BitVec 32 := Scalar.addi v1028 v1027
  let v1035 : BitVec 32 := Scalar.select v1033 v1034 v1028
  let v1036 : BitVec 32 := Scalar.muli c768_i32_715 v1035
  let c384_i32_716 : BitVec 32 := 384#32
  let v1037 : BitVec 32 := Scalar.addi v1036 c384_i32_716
  let c0_i32_721 : BitVec 32 := 0#32
  ![v1037.toNat, 0]
def k0_off30 (d0 : Dev nD) : Fin 2 → Nat :=
  let c3072_i32_233 : BitVec 32 := 3072#32
  let c0_i32_232 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c3_i32_164 : BitVec 32 := 3#32
  let v264 : BitVec 32 := Scalar.addi v21 c3_i32_164
  let c4_i32_165 : BitVec 32 := 4#32
  let c0_i32_166 : BitVec 32 := 0#32
  let v265 : BitVec 1 := Scalar.cmpi .eq c4_i32_165 c0_i32_166
  let c1_i32_167 : BitVec 32 := 1#32
  let v266 : BitVec 32 := Scalar.select v265 c1_i32_167 c4_i32_165
  let v267 : BitVec 32 := Scalar.remsi v264 v266
  let c0_i32_169 : BitVec 32 := 0#32
  let v269 : BitVec 1 := Scalar.cmpi .slt v267 c0_i32_169
  let c0_i32_170 : BitVec 32 := 0#32
  let v270 : BitVec 1 := Scalar.cmpi .slt v266 c0_i32_170
  let v271 : BitVec 1 := Scalar.xori v269 v270
  let c0_i32_168 : BitVec 32 := 0#32
  let v268 : BitVec 1 := Scalar.cmpi .ne v267 c0_i32_168
  let v272 : BitVec 1 := Scalar.andi v271 v268
  let v273 : BitVec 32 := Scalar.addi v267 v266
  let v274 : BitVec 32 := Scalar.select v272 v273 v267
  let c2_i32_226 : BitVec 32 := 2#32
  let c0_i32_227 : BitVec 32 := 0#32
  let v351 : BitVec 1 := Scalar.cmpi .eq c2_i32_226 c0_i32_227
  let c1_i32_228 : BitVec 32 := 1#32
  let v352 : BitVec 32 := Scalar.select v351 c1_i32_228 c2_i32_226
  let v353 : BitVec 32 := Scalar.remsi v274 v352
  let c0_i32_230 : BitVec 32 := 0#32
  let v355 : BitVec 1 := Scalar.cmpi .slt v353 c0_i32_230
  let c0_i32_231 : BitVec 32 := 0#32
  let v356 : BitVec 1 := Scalar.cmpi .slt v352 c0_i32_231
  let v357 : BitVec 1 := Scalar.xori v355 v356
  let c0_i32_229 : BitVec 32 := 0#32
  let v354 : BitVec 1 := Scalar.cmpi .ne v353 c0_i32_229
  let v358 : BitVec 1 := Scalar.andi v357 v354
  let v359 : BitVec 32 := Scalar.addi v353 v352
  let v360 : BitVec 32 := Scalar.select v358 v359 v353
  let v361 : BitVec 32 := Scalar.muli c0_i32_232 v360
  let v362 : BitVec 32 := Scalar.addi c3072_i32_233 v361
  let c512_i32_234 : BitVec 32 := 512#32
  let v363 : BitVec 32 := Scalar.muli c512_i32_234 v360
  let v364 : BitVec 32 := Scalar.addi v362 v363
  let c0_i32_729 : BitVec 32 := 0#32
  ![v364.toNat, 0]
def k0_off31 (d0 : Dev nD) : Fin 2 → Nat :=
  let c3072_i32_733 : BitVec 32 := 3072#32
  let c0_i32_732 : BitVec 32 := 0#32
  let c1_i32_731 : BitVec 32 := 1#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v1062 : BitVec 32 := Scalar.subi c1_i32_731 v31
  let v1063 : BitVec 32 := Scalar.muli c0_i32_732 v1062
  let v1064 : BitVec 32 := Scalar.addi c3072_i32_733 v1063
  let c512_i32_734 : BitVec 32 := 512#32
  let v1065 : BitVec 32 := Scalar.muli c512_i32_734 v1062
  let v1066 : BitVec 32 := Scalar.addi v1064 v1065
  let v1067 : Index := Scalar.indexCast v1066
  let c0_735 : Index := 0#32
  ![v1067.toNat, 0]
def k0_off32 (d0 : Dev nD) : Fin 2 → Nat :=
  let c3072_i32_733 : BitVec 32 := 3072#32
  let c0_i32_732 : BitVec 32 := 0#32
  let c1_i32_731 : BitVec 32 := 1#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v1062 : BitVec 32 := Scalar.subi c1_i32_731 v31
  let v1063 : BitVec 32 := Scalar.muli c0_i32_732 v1062
  let v1064 : BitVec 32 := Scalar.addi c3072_i32_733 v1063
  let c512_i32_734 : BitVec 32 := 512#32
  let v1065 : BitVec 32 := Scalar.muli c512_i32_734 v1062
  let v1066 : BitVec 32 := Scalar.addi v1064 v1065
  let c0_i32_739 : BitVec 32 := 0#32
  ![v1066.toNat, 0]
def k0_off33 (d0 : Dev nD) : Fin 2 → Nat :=
  let c3072_i32_306 : BitVec 32 := 3072#32
  let c0_i32_305 : BitVec 32 := 0#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c1_i32_235 : BitVec 32 := 1#32
  let v365 : BitVec 32 := Scalar.addi v21 c1_i32_235
  let c4_i32_236 : BitVec 32 := 4#32
  let c0_i32_237 : BitVec 32 := 0#32
  let v366 : BitVec 1 := Scalar.cmpi .eq c4_i32_236 c0_i32_237
  let c1_i32_238 : BitVec 32 := 1#32
  let v367 : BitVec 32 := Scalar.select v366 c1_i32_238 c4_i32_236
  let v368 : BitVec 32 := Scalar.remsi v365 v367
  let c0_i32_240 : BitVec 32 := 0#32
  let v370 : BitVec 1 := Scalar.cmpi .slt v368 c0_i32_240
  let c0_i32_241 : BitVec 32 := 0#32
  let v371 : BitVec 1 := Scalar.cmpi .slt v367 c0_i32_241
  let v372 : BitVec 1 := Scalar.xori v370 v371
  let c0_i32_239 : BitVec 32 := 0#32
  let v369 : BitVec 1 := Scalar.cmpi .ne v368 c0_i32_239
  let v373 : BitVec 1 := Scalar.andi v372 v369
  let v374 : BitVec 32 := Scalar.addi v368 v367
  let v375 : BitVec 32 := Scalar.select v373 v374 v368
  let c2_i32_299 : BitVec 32 := 2#32
  let c0_i32_300 : BitVec 32 := 0#32
  let v455 : BitVec 1 := Scalar.cmpi .eq c2_i32_299 c0_i32_300
  let c1_i32_301 : BitVec 32 := 1#32
  let v456 : BitVec 32 := Scalar.select v455 c1_i32_301 c2_i32_299
  let v457 : BitVec 32 := Scalar.remsi v375 v456
  let c0_i32_303 : BitVec 32 := 0#32
  let v459 : BitVec 1 := Scalar.cmpi .slt v457 c0_i32_303
  let c0_i32_304 : BitVec 32 := 0#32
  let v460 : BitVec 1 := Scalar.cmpi .slt v456 c0_i32_304
  let v461 : BitVec 1 := Scalar.xori v459 v460
  let c0_i32_302 : BitVec 32 := 0#32
  let v458 : BitVec 1 := Scalar.cmpi .ne v457 c0_i32_302
  let v462 : BitVec 1 := Scalar.andi v461 v458
  let v463 : BitVec 32 := Scalar.addi v457 v456
  let v464 : BitVec 32 := Scalar.select v462 v463 v457
  let v465 : BitVec 32 := Scalar.muli c0_i32_305 v464
  let v466 : BitVec 32 := Scalar.addi c3072_i32_306 v465
  let c512_i32_307 : BitVec 32 := 512#32
  let v467 : BitVec 32 := Scalar.muli c512_i32_307 v464
  let v468 : BitVec 32 := Scalar.addi v466 v467
  let c256_i32_308 : BitVec 32 := 256#32
  let v469 : BitVec 32 := Scalar.addi v468 c256_i32_308
  let c0_i32_747 : BitVec 32 := 0#32
  ![v469.toNat, 0]
def k0_off34 (d0 : Dev nD) : Fin 2 → Nat :=
  let c3072_i32_751 : BitVec 32 := 3072#32
  let c0_i32_750 : BitVec 32 := 0#32
  let c1_i32_749 : BitVec 32 := 1#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v1091 : BitVec 32 := Scalar.subi c1_i32_749 v31
  let v1092 : BitVec 32 := Scalar.muli c0_i32_750 v1091
  let v1093 : BitVec 32 := Scalar.addi c3072_i32_751 v1092
  let c512_i32_752 : BitVec 32 := 512#32
  let v1094 : BitVec 32 := Scalar.muli c512_i32_752 v1091
  let v1095 : BitVec 32 := Scalar.addi v1093 v1094
  let c256_i32_753 : BitVec 32 := 256#32
  let v1096 : BitVec 32 := Scalar.addi v1095 c256_i32_753
  let v1097 : Index := Scalar.indexCast v1096
  let c0_754 : Index := 0#32
  ![v1097.toNat, 0]
def k0_off35 (d0 : Dev nD) : Fin 2 → Nat :=
  let c3072_i32_751 : BitVec 32 := 3072#32
  let c0_i32_750 : BitVec 32 := 0#32
  let c1_i32_749 : BitVec 32 := 1#32
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v2 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.addi v9 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v1091 : BitVec 32 := Scalar.subi c1_i32_749 v31
  let v1092 : BitVec 32 := Scalar.muli c0_i32_750 v1091
  let v1093 : BitVec 32 := Scalar.addi c3072_i32_751 v1092
  let c512_i32_752 : BitVec 32 := 512#32
  let v1094 : BitVec 32 := Scalar.muli c512_i32_752 v1091
  let v1095 : BitVec 32 := Scalar.addi v1093 v1094
  let c256_i32_753 : BitVec 32 := 256#32
  let v1096 : BitVec 32 := Scalar.addi v1095 c256_i32_753
  let c0_i32_758 : BitVec 32 := 0#32
  ![v1096.toNat, 0]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
# The mesh, the rows and the contents

Device `4x + 2y + z` sits on one of two rings of four (one per `y`), at position `pos`; it has one partner on the other
ring (`yp`) and two neighbours on its own (`cw`, one position on; `ccw`, one position back). Each device receives the
rows of its landing buffer in seventeen blocks: five from its partner, six from each neighbour. This module says where
the blocks lie, that the program's computed devices and offsets are these, and what every buffer comes to hold.
-/
module

public import proofs.«01_k».proof.Proof.Gen.KernelIdeal
public import proofs.«01_k».proof.Proof.Gen.KernelIdeal.Skeleton
public import Idealize.ShloMosaic.Lib.Tactic

@[expose] public section

noncomputable section

namespace Cert.Exchange

open Cert.KernelIdeal Cert.KernelIdeal.Gen
open Idealize.ShloMosaic Idealize.ShloMosaic.TcCoe Idealize.SL.Sem

/-! ## Devices -/

/-- The ring a device is on (its coordinate along `y`), -/
def yy (c : Dev nD) : ℕ := c.val / 2 % 2
/-- and its position there. -/
def pos (c : Dev nD) : ℕ := 2 * (c.val % 2) + (c.val / 4 + c.val % 2) % 2

/-- The device at position `q` (modulo four) of ring `y`. -/
def devAt (q y : ℕ) : Dev nD :=
  ⟨4 * ((q % 4 + q % 4 / 2) % 2) + 2 * (y % 2) + q % 4 / 2, show _ < 8 by omega⟩

/-- The partner on the other ring, the next and the previous device of the own ring. -/
def yp (c : Dev nD) : Dev nD := devAt (pos c) (yy c + 1)
def cw (c : Dev nD) : Dev nD := devAt (pos c + 1) (yy c)
def ccw (c : Dev nD) : Dev nD := devAt (pos c + 3) (yy c)

/-- There are four positions. -/
theorem pos_lt (c : Dev nD) : pos c < 4 := by unfold pos; omega
/-- There are two rings. -/
theorem yy_lt (c : Dev nD) : yy c < 2 := by unfold yy; omega
/-- The position and the ring of the device that sits there. -/
theorem pos_devAt : ∀ q : Fin 4, ∀ y : Fin 2, pos (devAt q y) = q ∧ yy (devAt q y) = y := by decide
/-- A device is the one at its position and ring. -/
theorem devAt_pos : ∀ c : Dev nD, devAt (pos c) (yy c) = c := by decide

/-- The partner's partner is the device itself. -/
theorem yp_yp : ∀ c : Dev nD, yp (yp c) = c := by decide
/-- The device after the previous one is the device itself. -/
theorem cw_ccw : ∀ c : Dev nD, cw (ccw c) = c := by decide
/-- The device before the next one is the device itself. -/
theorem ccw_cw : ∀ c : Dev nD, ccw (cw c) = c := by decide
/-- The partner has the same position, -/
theorem pos_yp : ∀ c : Dev nD, pos (yp c) = pos c := by decide
/-- on the other ring. -/
theorem yy_yp : ∀ c : Dev nD, yy (yp c) = 1 - yy c := by decide
/-- The next device is one position on, -/
theorem pos_cw : ∀ c : Dev nD, pos (cw c) = (pos c + 1) % 4 := by decide
/-- on the same ring. -/
theorem yy_cw : ∀ c : Dev nD, yy (cw c) = yy c := by decide
/-- The previous device is one position back, -/
theorem pos_ccw : ∀ c : Dev nD, pos (ccw c) = (pos c + 3) % 4 := by decide
/-- on the same ring. -/
theorem yy_ccw : ∀ c : Dev nD, yy (ccw c) = yy c := by decide
/-- The partner is not the next device. -/
theorem yp_ne_cw : ∀ c : Dev nD, yp c ≠ cw c := by decide
/-- The next device is not the previous one. -/
theorem cw_ne_ccw : ∀ c : Dev nD, cw c ≠ ccw c := by decide

/-- The three exchanges as permutations of the mesh. -/
def ypE : Dev nD ≃ Dev nD := ⟨yp, yp, yp_yp, yp_yp⟩
def cwE : Dev nD ≃ Dev nD := ⟨cw, ccw, ccw_cw, cw_ccw⟩
def ccwE : Dev nD ≃ Dev nD := ⟨ccw, cw, cw_ccw, ccw_cw⟩

/-- The 1st device the program computes is the partner. -/
theorem dev1_eq : ∀ c : Dev nD, (⟨k0_dev1 c, k0_dev1_lt c⟩ : Dev nD) = yp c := by decide +kernel
/-- The 2nd device the program computes is the next device. -/
theorem dev2_eq : ∀ c : Dev nD, (⟨k0_dev2 c, k0_dev2_lt c⟩ : Dev nD) = cw c := by decide +kernel
/-- The 3rd device the program computes is the previous device. -/
theorem dev3_eq : ∀ c : Dev nD, (⟨k0_dev3 c, k0_dev3_lt c⟩ : Dev nD) = ccw c := by decide +kernel
/-- The 4th device the program computes is the partner. -/
theorem dev4_eq : ∀ c : Dev nD, (⟨k0_dev4 c, k0_dev4_lt c⟩ : Dev nD) = yp c := by decide +kernel
/-- The 5th device the program computes is the partner. -/
theorem dev5_eq : ∀ c : Dev nD, (⟨k0_dev5 c, k0_dev5_lt c⟩ : Dev nD) = yp c := by decide +kernel
/-- The 6th device the program computes is the partner. -/
theorem dev6_eq : ∀ c : Dev nD, (⟨k0_dev6 c, k0_dev6_lt c⟩ : Dev nD) = yp c := by decide +kernel
/-- The 7th device the program computes is the partner. -/
theorem dev7_eq : ∀ c : Dev nD, (⟨k0_dev7 c, k0_dev7_lt c⟩ : Dev nD) = yp c := by decide +kernel
/-- The 8th device the program computes is the partner. -/
theorem dev8_eq : ∀ c : Dev nD, (⟨k0_dev8 c, k0_dev8_lt c⟩ : Dev nD) = yp c := by decide +kernel
/-- The 9th device the program computes is the next device. -/
theorem dev9_eq : ∀ c : Dev nD, (⟨k0_dev9 c, k0_dev9_lt c⟩ : Dev nD) = cw c := by decide +kernel
/-- The 10th device the program computes is the previous device. -/
theorem dev10_eq : ∀ c : Dev nD, (⟨k0_dev10 c, k0_dev10_lt c⟩ : Dev nD) = ccw c := by decide +kernel
/-- The 11th device the program computes is the next device. -/
theorem dev11_eq : ∀ c : Dev nD, (⟨k0_dev11 c, k0_dev11_lt c⟩ : Dev nD) = cw c := by decide +kernel
/-- The 12th device the program computes is the previous device. -/
theorem dev12_eq : ∀ c : Dev nD, (⟨k0_dev12 c, k0_dev12_lt c⟩ : Dev nD) = ccw c := by decide +kernel
/-- The 13th device the program computes is the next device. -/
theorem dev13_eq : ∀ c : Dev nD, (⟨k0_dev13 c, k0_dev13_lt c⟩ : Dev nD) = cw c := by decide +kernel
/-- The 14th device the program computes is the previous device. -/
theorem dev14_eq : ∀ c : Dev nD, (⟨k0_dev14 c, k0_dev14_lt c⟩ : Dev nD) = ccw c := by decide +kernel
/-- The 15th device the program computes is the next device. -/
theorem dev15_eq : ∀ c : Dev nD, (⟨k0_dev15 c, k0_dev15_lt c⟩ : Dev nD) = cw c := by decide +kernel
/-- The 16th device the program computes is the next device. -/
theorem dev16_eq : ∀ c : Dev nD, (⟨k0_dev16 c, k0_dev16_lt c⟩ : Dev nD) = cw c := by decide +kernel
/-- The 17th device the program computes is the previous device. -/
theorem dev17_eq : ∀ c : Dev nD, (⟨k0_dev17 c, k0_dev17_lt c⟩ : Dev nD) = ccw c := by decide +kernel
/-- The 18th device the program computes is the previous device. -/
theorem dev18_eq : ∀ c : Dev nD, (⟨k0_dev18 c, k0_dev18_lt c⟩ : Dev nD) = ccw c := by decide +kernel
/-- The 19th device the program computes is the next device. -/
theorem dev19_eq : ∀ c : Dev nD, (⟨k0_dev19 c, k0_dev19_lt c⟩ : Dev nD) = cw c := by decide +kernel
/-- The 20th device the program computes is the previous device. -/
theorem dev20_eq : ∀ c : Dev nD, (⟨k0_dev20 c, k0_dev20_lt c⟩ : Dev nD) = ccw c := by decide +kernel

/-! ## Blocks of rows

Rows `768 q … 768 q + 767` of the landing buffer are position `q`'s share of the first 3072 rows; the last 1024 rows are
two shares of 512, one per parity of the position. Block `l < 5` of a device comes from its partner, `5 ≤ l < 11` from
`ccw` (sent by it to its `cw`), `11 ≤ l < 17` from `cw`. -/

/-- The first row of position `q`'s share of the first part, and of parity `q`'s share of the second. -/
def ur (q : ℕ) : ℕ := 768 * (q % 4)
def dr (q : ℕ) : ℕ := 3072 + 512 * (q % 2)

/-- The first row of the block a device at position `p` receives as its `l`-th, -/
def loP (p : ℕ) : Fin 17 → ℕ :=
  ![ur p, ur p + 256, ur p + 512, dr p, dr p + 256,
    ur (p + 3), ur (p + 3) + 256, ur (p + 3) + 512, ur (p + 2), ur (p + 2) + 256, dr (p + 1),
    ur (p + 1), ur (p + 1) + 256, ur (p + 1) + 512, ur (p + 2) + 384, ur (p + 2) + 512, dr (p + 1) + 256]
def lo (c : Dev nD) (l : Fin 17) : ℕ := loP (pos c) l
/-- the block's rows, -/
def nn : Fin 17 → ℕ := ![256, 256, 256, 256, 256, 256, 256, 256, 256, 128, 256, 256, 256, 256, 128, 256, 256]
/-- the device it goes to when `c` sends it and the device it comes from when `c` receives it. -/
def dest (c : Dev nD) (l : Fin 17) : Dev nD := if l.val < 5 then yp c else if l.val < 11 then cw c else ccw c
def orig (c : Dev nD) (l : Fin 17) : Dev nD := if l.val < 5 then yp c else if l.val < 11 then ccw c else cw c

/-- The sender of a block to its receiver is the device itself. -/
theorem orig_dest : ∀ (c : Dev nD) (l : Fin 17), orig (dest c l) l = c := by decide
/-- The receiver of a block from its sender is the device itself. -/
theorem dest_orig : ∀ (c : Dev nD) (l : Fin 17), dest (orig c l) l = c := by decide

/-- Rows `lo … lo + n - 1` of a buffer of `R` rows of 1024. -/
def rows {R : ℕ} (lo n : ℕ) : Finset (⟨2, ![R, 1024]⟩ : Shape).Idx :=
  Finset.univ.filter fun i => lo ≤ (i 0).val ∧ (i 0).val < lo + n

/-- Which indices are in rows `lo … lo + n`. -/
theorem mem_rows {R lo n : ℕ} {i : (⟨2, ![R, 1024]⟩ : Shape).Idx} : i ∈ rows lo n ↔ lo ≤ (i 0).val ∧ (i 0).val < lo + n := by
  unfold rows; rw [Finset.mem_filter]; exact ⟨fun h => h.2, fun h => ⟨Finset.mem_univ _, h⟩⟩

/-- A rectangle of whole rows covers those rows. -/
theorem set_unit_rows {R lo n : ℕ} {off : Fin 2 → ℕ} (h : off = ![lo, 0])
    (inb : ∀ a, off a + (![n, 1024] : Fin 2 → ℕ) a ≤ (⟨2, ![R, 1024]⟩ : Shape).size a) :
    (Rect.unit (s := ⟨2, ![R, 1024]⟩) off ![n, 1024] inb).set = rows lo n := by
  subst h
  ext i
  rw [Rect.mem_set_unit, mem_rows]
  constructor
  · intro h; exact h 0
  · intro h a
    match a with
    | ⟨0, _⟩ => exact h
    | ⟨1, _⟩ => exact ⟨Nat.zero_le _, by have := (i 1).isLt; show (i 1).val < 0 + 1024; rw [Nat.zero_add]; exact this⟩

/-- Rows `a … a + n + k` are rows `a … a + n` and the `k` rows after them. -/
theorem rows_append {R a n k : ℕ} : (rows a (n + k) : Finset (⟨2, ![R, 1024]⟩ : Shape).Idx) = rows a n ∪ rows (a + n) k := by
  ext i; rw [Finset.mem_union, mem_rows, mem_rows, mem_rows]; omega

/-- Stretches of rows that don't overlap share no index. -/
theorem rows_disjoint {R a n b k : ℕ} (h : a + n ≤ b ∨ b + k ≤ a) :
    Disjoint (rows a n : Finset (⟨2, ![R, 1024]⟩ : Shape).Idx) (rows b k) := by
  rw [Finset.disjoint_left]; intro i; rw [mem_rows, mem_rows]; omega

/-- All rows are all indices. -/
theorem rows_univ {R : ℕ} : (rows 0 R : Finset (⟨2, ![R, 1024]⟩ : Shape).Idx) = Finset.univ := by
  ext i; rw [mem_rows]; have : (i 0).val < R := (i 0).isLt
  simp only [Finset.mem_univ, iff_true]; omega

/-! ## The program's offsets -/

/-- Eight regions are added and copied out; region `i` begins at row `rlo c i` and has `rn i` rows. -/
def rlo (c : Dev nD) : Fin 8 → ℕ :=
  ![ur (pos c), dr (pos c), ur (pos c + 3), ur (pos c + 1), ur (pos c + 2), ur (pos c + 2) + 384, dr (pos c + 1), dr (pos c + 1) + 256]
def rn : Fin 8 → ℕ := ![768, 512, 768, 768, 384, 384, 256, 256]

/-- The row of `x` that row `r` of the staged rows holds: the device's share of the first part, then of the second. -/
def srow (c : Dev nD) (r : ℕ) : ℕ := if r < 768 then ur (pos c) + r else dr (pos c) + (r - 768)

/-- The source of staging copy 0: the device's own rows, in the partner's columns. -/
theorem off1_0 : ∀ c : Dev nD, k0_off1 c 0#32 = ![0, ur (pos c), 1024 * (1 - yy c)] := by decide +kernel
/-- The source of staging copy 1. -/
theorem off1_1 : ∀ c : Dev nD, k0_off1 c 256#32 = ![0, ur (pos c) + 256, 1024 * (1 - yy c)] := by decide +kernel
/-- The source of staging copy 2. -/
theorem off1_2 : ∀ c : Dev nD, k0_off1 c 512#32 = ![0, ur (pos c) + 512, 1024 * (1 - yy c)] := by decide +kernel
/-- The source of staging copy 3: the rows that two positions have in common. -/
theorem off2_0 : ∀ c : Dev nD, k0_off2 c 0#32 = ![0, dr (pos c), 1024 * (1 - yy c)] := by decide +kernel
/-- The source of staging copy 4. -/
theorem off2_1 : ∀ c : Dev nD, k0_off2 c 256#32 = ![0, dr (pos c) + 256, 1024 * (1 - yy c)] := by decide +kernel

/-- The rows of block 0. -/
theorem off11_0 : ∀ c : Dev nD, k0_off11 c 0#32 = ![lo c 0, 0] := by decide +kernel
/-- The rows of block 1. -/
theorem off11_1 : ∀ c : Dev nD, k0_off11 c 256#32 = ![lo c 1, 0] := by decide +kernel
/-- The rows of block 2. -/
theorem off11_2 : ∀ c : Dev nD, k0_off11 c 512#32 = ![lo c 2, 0] := by decide +kernel
/-- The rows of block 3. -/
theorem off12_0 : ∀ c : Dev nD, k0_off12 c 0#32 = ![lo c 3, 0] := by decide +kernel
/-- The rows of block 4. -/
theorem off12_1 : ∀ c : Dev nD, k0_off12 c 256#32 = ![lo c 4, 0] := by decide +kernel
/-- The rows at which block 5 lands. -/
theorem off13_5 : ∀ c : Dev nD, k0_off13 c 3#32 0#32 = ![lo c 5, 0] := by decide +kernel
/-- The rows at which block 6 lands. -/
theorem off13_6 : ∀ c : Dev nD, k0_off13 c 3#32 256#32 = ![lo c 6, 0] := by decide +kernel
/-- The rows at which block 7 lands. -/
theorem off13_7 : ∀ c : Dev nD, k0_off13 c 3#32 512#32 = ![lo c 7, 0] := by decide +kernel
/-- The rows at which block 11 lands. -/
theorem off13_11 : ∀ c : Dev nD, k0_off13 c 1#32 0#32 = ![lo c 11, 0] := by decide +kernel
/-- The rows at which block 12 lands. -/
theorem off13_12 : ∀ c : Dev nD, k0_off13 c 1#32 256#32 = ![lo c 12, 0] := by decide +kernel
/-- The rows at which block 13 lands. -/
theorem off13_13 : ∀ c : Dev nD, k0_off13 c 1#32 512#32 = ![lo c 13, 0] := by decide +kernel
/-- The rows of block 5, at another place of the program. -/
theorem off14_eq : ∀ c : Dev nD, k0_off14 c = ![lo c 5, 0] := by decide +kernel
/-- The rows of block 6, at another place of the program. -/
theorem off15_0 : ∀ c : Dev nD, k0_off15 c 3#32 256#32 = ![lo c 6, 0] := by decide +kernel
/-- The rows of the last half of block 12. -/
theorem off15_1 : ∀ c : Dev nD, k0_off15 c 1#32 384#32 = ![lo c 12 + 128, 0] := by decide +kernel
/-- The rows of block 3, at another place of the program. -/
theorem off16_eq : ∀ c : Dev nD, k0_off16 c = ![lo c 3, 0] := by decide +kernel
/-- The rows of block 8, at another place of the program. -/
theorem off23_eq : ∀ c : Dev nD, k0_off23 c = ![lo c 8, 0] := by decide +kernel
/-- The rows of block 9, at another place of the program. -/
theorem off24_0 : ∀ c : Dev nD, k0_off24 c 3#32 3#32 256#32 = ![lo c 9, 0] := by decide +kernel
/-- The rows of block 14, at another place of the program. -/
theorem off24_1 : ∀ c : Dev nD, k0_off24 c 1#32 1#32 384#32 = ![lo c 14, 0] := by decide +kernel
/-- The rows of block 15, at another place of the program. -/
theorem off27_eq : ∀ c : Dev nD, k0_off27 c = ![lo c 15, 0] := by decide +kernel
/-- The rows of block 10, at another place of the program. -/
theorem off30_eq : ∀ c : Dev nD, k0_off30 c = ![lo c 10, 0] := by decide +kernel
/-- The rows of block 16, at another place of the program. -/
theorem off33_eq : ∀ c : Dev nD, k0_off33 c = ![lo c 16, 0] := by decide +kernel

/-- The rows of region 0, for the addition. -/
theorem off17_eq : ∀ c : Dev nD, k0_off17 c = ![rlo c 0, 0] := by decide +kernel
/-- The rows of region 0, for its copy out. -/
theorem off18_eq : ∀ c : Dev nD, k0_off18 c = ![rlo c 0, 0] := by decide +kernel
/-- The rows of region 1, for the addition. -/
theorem off19_eq : ∀ c : Dev nD, k0_off19 c = ![rlo c 1, 0] := by decide +kernel
/-- The rows of region 1, for its copy out. -/
theorem off20_eq : ∀ c : Dev nD, k0_off20 c = ![rlo c 1, 0] := by decide +kernel
/-- The rows of region 2, for the addition. -/
theorem off21_2 : ∀ c : Dev nD, k0_off21 c 3#32 = ![rlo c 2, 0] := by decide +kernel
/-- The rows of region 2, for its copy out. -/
theorem off22_2 : ∀ c : Dev nD, k0_off22 c 3#32 = ![rlo c 2, 0] := by decide +kernel
/-- The rows of region 3, for the addition. -/
theorem off21_3 : ∀ c : Dev nD, k0_off21 c 1#32 = ![rlo c 3, 0] := by decide +kernel
/-- The rows of region 3, for its copy out. -/
theorem off22_3 : ∀ c : Dev nD, k0_off22 c 1#32 = ![rlo c 3, 0] := by decide +kernel
/-- The rows of region 4, for the addition. -/
theorem off25_eq : ∀ c : Dev nD, k0_off25 c = ![rlo c 4, 0] := by decide +kernel
/-- The rows of region 4, for its copy out. -/
theorem off26_eq : ∀ c : Dev nD, k0_off26 c = ![rlo c 4, 0] := by decide +kernel
/-- The rows of region 5, for the addition. -/
theorem off28_eq : ∀ c : Dev nD, k0_off28 c = ![rlo c 5, 0] := by decide +kernel
/-- The rows of region 5, for its copy out. -/
theorem off29_eq : ∀ c : Dev nD, k0_off29 c = ![rlo c 5, 0] := by decide +kernel
/-- The rows of region 6, for the addition. -/
theorem off31_eq : ∀ c : Dev nD, k0_off31 c = ![rlo c 6, 0] := by decide +kernel
/-- The rows of region 6, for its copy out. -/
theorem off32_eq : ∀ c : Dev nD, k0_off32 c = ![rlo c 6, 0] := by decide +kernel
/-- The rows of region 7, for the addition. -/
theorem off34_eq : ∀ c : Dev nD, k0_off34 c = ![rlo c 7, 0] := by decide +kernel
/-- The rows of region 7, for its copy out. -/
theorem off35_eq : ∀ c : Dev nD, k0_off35 c = ![rlo c 7, 0] := by decide +kernel

end Cert.Exchange

end
-- ==== Proof.Contents.lean ====
/-
# What the buffers hold

Every buffer's final contents, as functions of the arrays the devices were launched with, and that the program's copies,
loads and stores produce them: a block landing through a rectangle of rows is the corresponding block of the contents.
-/
module

public import proofs.«01_k».proof.Proof.Plan
public import proofs.«01_k».proof.Proof.Gen.KernelIdeal.Launch
public import Idealize.ShloMosaic.Lib.Pipeline.Launch
public import Idealize.ShloMosaic.Lib.Pipeline.Kit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## The contents -/

/-- The argument of device `c`, -/
abbrev X (c : Dev nD) : Buf (Elt F) ((c : Thread nD τ).loc main_arg0) := m ((c : Thread nD τ).loc main_arg0)

/-- its entry at row `r`, column `k`. -/
def xat (c : Dev nD) (r k : ℕ) : F .f32 :=
  X m c fun a => match a with
    | ⟨0, _⟩ => (⟨0, Nat.one_pos⟩ : Fin 1)
    | ⟨1, _⟩ => (⟨r % 4096, Nat.mod_lt _ (by decide)⟩ : Fin 4096)
    | ⟨2, _⟩ => (⟨k % 2048, Nat.mod_lt _ (by decide)⟩ : Fin 2048)

/-- A value narrowed to the wire format, and widened back. -/
def nrw (v : F .f32) : F .bf16 := FloatOps.truncf .bf16 bitsLt_bf16_f32 v
def wdn (v : F .bf16) : F .f32 := FloatOps.extf .f32 bitsLt_bf16_f32 v

/-- The position whose device has sent row `r` of the landing buffer of a device at position `p`. -/
def own (p r : ℕ) : ℕ :=
  if r < 3072 then r / 768 else if (r - 3072) / 512 = p % 2 then p else if (r - 3072) % 512 < 256 then p + 3 else p + 1

/-- The staged rows of `x` (half the partner's columns), -/
def SF (c : Dev nD) : Buf (Elt F) ((c : Thread nD τ).loc cc0_scratch1) :=
  fun i : S1280x1024.Idx => xat m c (srow c (i 0).val) (1024 * (1 - yy c) + (i 1).val)
/-- narrowed, -/
def SB (c : Dev nD) : Buf (Elt F) ((c : Thread nD τ).loc cc0_scratch2) :=
  fun i : S1280x1024.Idx => nrw (xat m c (srow c (i 0).val) (1024 * (1 - yy c) + (i 1).val))
/-- what the landing buffer receives: the own columns of the other ring's `x`, narrowed; -/
def D (c : Dev nD) : Buf (Elt F) ((c : Thread nD τ).loc cc0_scratch0) :=
  fun i : S4096x1024.Idx => nrw (xat m (devAt (own (pos c) (i 0).val) (1 - yy c)) (i 0).val (1024 * yy c + (i 1).val))
/-- the own columns of the own `x`, -/
def MY (c : Dev nD) : Buf (Elt F) ((c : Thread nD τ).loc cc0_scratch3) :=
  fun i : S4096x1024.Idx => xat m c (i 0).val (1024 * yy c + (i 1).val)
/-- and the sum, entry by entry. -/
def sumAt (c : Dev nD) (r k : ℕ) : F .f32 :=
  FloatOps.addf (xat m c r (1024 * yy c + k)) (wdn (nrw (xat m (devAt (own (pos c) r) (1 - yy c)) r (1024 * yy c + k))))
def OV (c : Dev nD) : Buf (Elt F) ((c : Thread nD τ).loc cc0_scratch4) := fun i : S4096x1024.Idx => sumAt m c (i 0).val (i 1).val
def RES (c : Dev nD) : Buf (Elt F) ((c : Thread nD τ).loc main_v1) := fun i : S4096x1024.Idx => sumAt m c (i 0).val (i 1).val

/-! ## Rows and who has sent them -/

/-- The blocks lie at the same rows on the partner. -/
theorem lo_yp (c : Dev nD) (l : Fin 17) : lo (yp c) l = lo c l := by unfold lo; rw [pos_yp]

/-- A row of block `l < 5` comes from the device's own position, -/
theorem own_partner : ∀ (p : Fin 4) (l : Fin 5) (t : ℕ), t < 256 → own p (loP p (l.castLE (by decide)) + t) = p := by
  intro p l t ht
  fin_cases p <;> fin_cases l <;> simp [own, loP, ur, dr] <;> (try omega) <;> (repeat' split) <;> omega

/-- a relayed row from the same position for the relaying device and the receiving one. -/
theorem own_relay : ∀ (p : Fin 4) (l : Fin 17) (t : ℕ), t < nn l → 5 ≤ l.val →
    own ((p.val + if l.val < 11 then 1 else 3) % 4) (loP ((p.val + if l.val < 11 then 1 else 3) % 4) l + t) % 4
      = own p (loP ((p.val + if l.val < 11 then 1 else 3) % 4) l + t) % 4 := by
  intro p l t ht hl
  fin_cases l <;> first
    | exact absurd hl (by decide)
    | (have ht' : t < 256 := lt_of_lt_of_le ht (by decide)
       replace ht : t < _ := ht
       simp only [nn] at ht
       fin_cases p <;> simp [own, loP, ur, dr] at ht ⊢ <;> (try omega) <;> (repeat' split) <;> omega)

/-- A position counts modulo four. -/
theorem devAt_congr {q q' y : ℕ} (h : q % 4 = q' % 4) : devAt q y = devAt q' y := by
  unfold devAt; simp only [h]

/-- What the partner receives of block `l < 5` is the sender's staged block, -/
theorem D_yp (c : Dev nD) (l : Fin 5) (r k t k' s : ℕ) (ht : t < 256) (hr : r = lo c (l.castLE (by decide)) + t)
    (hs : s = 256 * l.val + t) (hk : k = k') :
    nrw (xat m c (srow c s) (1024 * (1 - yy c) + k'))
      = nrw (xat m (devAt (own (pos (yp c)) r) (1 - yy (yp c))) r (1024 * yy (yp c) + k)) := by
  subst hk
  have h0 : own (pos c) r = pos c := by
    rw [hr]; exact own_partner ⟨pos c, pos_lt c⟩ l t ht
  have h1 : (1 : ℕ) - (1 - yy c) = yy c := by have := yy_lt c; omega
  have h2 : srow c s = r := by
    subst hs hr; unfold srow lo
    fin_cases l <;> simp [loP] <;> (try split) <;> omega
  rw [pos_yp, yy_yp, h0, h1, devAt_pos, h2]

/-- and what a neighbour receives of a relayed block is what the relaying device holds there. -/
theorem D_relay (c : Dev nD) (l : Fin 17) (hl : 5 ≤ l.val) (r k k' t : ℕ) (ht : t < nn l) (hr : r = lo (dest c l) l + t) (hk : k = k') :
    nrw (xat m (devAt (own (pos c) r) (1 - yy c)) r (1024 * yy c + k'))
      = nrw (xat m (devAt (own (pos (dest c l)) r) (1 - yy (dest c l))) r (1024 * yy (dest c l) + k)) := by
  subst hk
  have hp : pos (dest c l) = (pos c + if l.val < 11 then 1 else 3) % 4 := by
    unfold dest; rw [if_neg (by omega)]
    split <;> [exact pos_cw c; exact pos_ccw c]
  have hy : yy (dest c l) = yy c := by
    unfold dest; rw [if_neg (by omega)]
    split <;> [exact yy_cw c; exact yy_ccw c]
  have h := own_relay ⟨pos c, pos_lt c⟩ l t ht hl
  rw [hy, hp, devAt_congr (q := own ((pos c + if l.val < 11 then 1 else 3) % 4) r) (q' := own (pos c) r)]
  subst hr; unfold lo; rw [hp]; exact h

/-! ## Landing -/

section Land

open Idealize.ShloMosaic.Rounds

/-- The resource algebra: the launch's own copy of the rounds, and this exchange's, with three duties per cell at most. -/
abbrev UB : Type := URounds (GSem nD τ sig) (Fin 3)
abbrev UU : Type := UR sig nD τ × UB

local notation "𝕄" => MT nD τ sig Unit (Elt F) ℕ UU ℕ

omit [FloatOps F] in
/-- Values written through a rectangle of a whole buffer are the contents `T` there if they agree with it entry by entry. -/
theorem landed {b : Ref sig .tc} (r : Rect b.ty.shape) (hr : ∀ a, r.stride a = 1) (c : Dev nD) {q : PosShare TreeShare}
    (fd T : Buf (Elt F) ((c : Thread nD τ).loc b)) (w : r.shape.Idx → Elt F b.ty.elt) (h : ∀ j, w j = T (r.emb j)) :
    ((((Memref.whole b).slice r hr).view.loc (c : Thread nD τ) ↦[((Memref.whole b).slice r hr).view.set]{q}
        (((Memref.whole b).slice r hr).view.write (Elt F) fd w Finset.univ)) : sProp 𝕄)
      = (((c : Thread nD τ).loc b) ↦[r.set]{q} T) := by
  have hs : ((Memref.whole b).slice r hr).view.set = r.set := View.set_slice_whole b r
  refine Eq.trans (pointsTo_congr (g := T) fun i hi => ?_) (by rw [hs])
  obtain ⟨j, -, rfl⟩ := Finset.mem_map.mp hi
  have hw := View.write_emb_of_mem (Val := Elt F) (v := ((Memref.whole b).slice r hr).view) fd w (Finset.mem_univ j)
  exact hw.trans (h j)

end Land

end Cert.Exchange

end
-- ==== Proof.Sched.lean ====
/-
# The schedule

Each device has fifty-six cells: its barrier cell and one for each DMA semaphore. The barrier cell's round has three
duties of one unit, each paid by a neighbour and handing over the blocks of the payer's landing buffer this device will
write. Every other cell's round has one duty, a transfer's credit, and hands over what the transfer leaves: the block it
landed, and for a local copy the source lent to it; for a source cell of a remote transfer, the share of the source lent
to it.
-/
module

public import proofs.«01_k».proof.Proof.Contents
public import Idealize.ShloMosaic.Lib.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Cells and their roles -/

/-- The barrier semaphore, and the cells of device `c`: its barrier's and its DMA semaphore `i`'s. -/
abbrev barS : Sem sig := (SemArray.scalar (sig.barrier 0 rfl) : Sems sig S_).sem
abbrev bcell (c : Dev nD) : GSem nD τ sig := ((c : Thread nD τ), .reg barS)
abbrev dcell (c : Dev nD) (i : Fin 55) : GSem nD τ sig := ((c : Thread nD τ), .dma (i : DmaSem sig))

/-- What a DMA semaphore counts: the source or the landing of remote block `l`, a copy of the rows to stage, a copy of
    the own columns, a copy of a finished region out. -/
inductive Role
  | send (l : Fin 17) | recv (l : Fin 17) | stage (j : Fin 5) | mine (k : Fin 8) | out (i : Fin 8)

def role (i : Fin 55) : Role :=
  if h : i.val < 5 then .send ⟨i.val, by omega⟩
  else if h : i.val < 10 then .recv ⟨i.val - 5, by omega⟩
  else if h : i.val < 16 then .send ⟨i.val - 5, by omega⟩
  else if h : i.val < 22 then .recv ⟨i.val - 11, by omega⟩
  else if h : i.val < 28 then .send ⟨i.val - 11, by omega⟩
  else if h : i.val < 34 then .recv ⟨i.val - 17, by omega⟩
  else if h : i.val < 39 then .stage ⟨i.val - 34, by omega⟩
  else if h : i.val < 47 then .mine ⟨i.val - 39, by omega⟩
  else .out ⟨i.val - 47, by omega⟩

/-- The semaphores of block `l`'s source and landing. -/
def sIx (l : Fin 17) : Fin 55 :=
  ⟨if l.val < 5 then l.val else if l.val < 11 then l.val + 5 else l.val + 11, by split <;> (try split) <;> omega⟩
def rIx (l : Fin 17) : Fin 55 :=
  ⟨if l.val < 5 then l.val + 5 else if l.val < 11 then l.val + 11 else l.val + 17, by split <;> (try split) <;> omega⟩

/-- The role of block `l`'s send semaphore. -/
theorem role_sIx : ∀ l : Fin 17, role (sIx l) = .send l := by
  intro l; fin_cases l <;> rfl
/-- The role of block `l`'s receive semaphore. -/
theorem role_rIx : ∀ l : Fin 17, role (rIx l) = .recv l := by
  intro l; fin_cases l <;> rfl

/-- A transfer's credit, and that it is positive. -/
def amt : Role → ℕ
  | .send l => cc0_scratch0.dmaCredit ⟨2, ![nn l, 1024]⟩ .bf16
  | .recv l => cc0_scratch0.dmaCredit ⟨2, ![nn l, 1024]⟩ .bf16
  | .stage _ => cc0_scratch1.dmaCredit ⟨2, ![256, 1024]⟩ .f32
  | .mine _ => cc0_scratch3.dmaCredit ⟨2, ![512, 1024]⟩ .f32
  | .out i => main_v1.dmaCredit ⟨2, ![rn i, 1024]⟩ .f32

/-- Every payment is of at least one unit. -/
theorem amt_pos (r : Role) : 0 < amt r := by
  cases r <;> refine sig.dmaCredit_pos _ _ _ _ _ ?_
  case send l => fin_cases l <;> decide
  case recv l => fin_cases l <;> decide
  case stage => decide
  case mine => decide
  case out i => fin_cases i <;> decide

/-! ## What the cells hand over -/

/-- The rows of the buffers of device `c`, at a share and contents. -/
abbrev dR (c : Dev nD) (q : PosShare TreeShare) (lo n : ℕ) (f : Buf (Elt F) ((c : Thread nD τ).loc cc0_scratch0)) : sProp 𝕄 :=
  ((c : Thread nD τ).loc cc0_scratch0) ↦[(rows lo n : Finset S4096x1024.Idx)]{q} f
abbrev sfR (c : Dev nD) (lo n : ℕ) (f : Buf (Elt F) ((c : Thread nD τ).loc cc0_scratch1)) : sProp 𝕄 :=
  ((c : Thread nD τ).loc cc0_scratch1) ↦[(rows lo n : Finset S1280x1024.Idx)]{fullShare} f
abbrev sbR (c : Dev nD) (lo n : ℕ) (f : Buf (Elt F) ((c : Thread nD τ).loc cc0_scratch2)) : sProp 𝕄 :=
  ((c : Thread nD τ).loc cc0_scratch2) ↦[(rows lo n : Finset S1280x1024.Idx)]{fullShare} f
abbrev myR (c : Dev nD) (lo n : ℕ) (f : Buf (Elt F) ((c : Thread nD τ).loc cc0_scratch3)) : sProp 𝕄 :=
  ((c : Thread nD τ).loc cc0_scratch3) ↦[(rows lo n : Finset S4096x1024.Idx)]{fullShare} f
abbrev ovR (c : Dev nD) (lo n : ℕ) (f : Buf (Elt F) ((c : Thread nD τ).loc cc0_scratch4)) : sProp 𝕄 :=
  ((c : Thread nD τ).loc cc0_scratch4) ↦[(rows lo n : Finset S4096x1024.Idx)]{fullShare} f
abbrev resR (c : Dev nD) (lo n : ℕ) (f : Buf (Elt F) ((c : Thread nD τ).loc main_v1)) : sProp 𝕄 :=
  ((c : Thread nD τ).loc main_v1) ↦[(rows lo n : Finset S4096x1024.Idx)]{fullShare} f
/-- The argument whole, at the share lent to its `k`-th reader. -/
abbrev xT (c : Dev nD) (k : ℕ) : sProp 𝕄 :=
  ((c : Thread nD τ).loc main_arg0) ↦{Transfers.shareTokN fullShare k} X m c

/-- The share of a landed block kept for the additions, and the one lent to the send of block `l`: a block relayed once is
    lent its other half, the blocks sent both ways a quarter each. -/
abbrev qK : PosShare TreeShare := fullShare.left
abbrev qR : PosShare TreeShare := fullShare.right
def qS (l : Fin 17) : PosShare TreeShare :=
  if l.val < 8 then fullShare.right.left else if 11 ≤ l.val ∧ l.val < 14 then fullShare.right.right else fullShare.right

def pay (c : Dev nD) : Role → sProp 𝕄
  | .send l => if l.val < 5 then sbR c (256 * l.val) 256 (SB m c) else dR c (qS l) (lo (dest c l) l) (nn l) (D m c)
  | .recv l => dR c fullShare (lo c l) (nn l) (D m c)
  | .stage j => iprop(sfR c (256 * j.val) 256 (SF m c) ∗ xT m c j.val)
  | .mine k => iprop(myR c (512 * k.val) 512 (MY m c) ∗ xT m c (5 + k.val))
  | .out i => iprop(resR c (rlo c i) (rn i) (RES m c) ∗ ovR c (rlo c i) (rn i) (OV m c))

instance pay_storable (c : Dev nD) (r : Role) : BI.Storable (upEmb : UEmb _ 𝕄) (pay m c r) := by
  cases r with
  | send l =>
    by_cases h : l.val < 5
    · rw [show pay m c (.send l) = sbR c (256 * l.val) 256 (SB m c) from if_pos h]; infer_instance
    · rw [show pay m c (.send l) = dR c (qS l) (lo (dest c l) l) (nn l) (D m c) from if_neg h]; infer_instance
  | recv l => unfold pay; infer_instance
  | stage j => unfold pay; infer_instance
  | mine k => unfold pay; infer_instance
  | out i => unfold pay; infer_instance

/-- The rows device `c` will write as block `l`, at whatever they hold. -/
def land (c : Dev nD) (l : Fin 17) : sProp 𝕄 :=
  iprop(∃ f, dR (dest c l) fullShare (lo (dest c l) l) (nn l) f)

instance land_storable (c : Dev nD) (l : Fin 17) : BI.Storable (upEmb : UEmb _ 𝕄) (land (F := F) c l) := by
  unfold land; infer_instance

/-- What the barrier's duty `d` hands over: the partner's blocks, the next device's, the previous one's. -/
def bpay (c : Dev nD) : Fin 3 → sProp 𝕄
  | 0 => iprop(land c 0 ∗ land c 1 ∗ land c 2 ∗ land c 3 ∗ land c 4)
  | 1 => iprop(land c 11 ∗ land c 12 ∗ land c 13 ∗ land c 14 ∗ land c 15 ∗ land c 16)
  | 2 => iprop(land c 5 ∗ land c 6 ∗ land c 7 ∗ land c 8 ∗ land c 9 ∗ land c 10)

instance bpay_storable (c : Dev nD) (d : Fin 3) : BI.Storable (upEmb : UEmb _ 𝕄) (bpay (F := F) c d) := by
  match d with
  | 0 => unfold bpay; infer_instance
  | 1 => unfold bpay; infer_instance
  | 2 => unfold bpay; infer_instance

/-! ## The schedule -/

/-- One round, round 0. -/
def xRd : Rounds.Schedule (GSem nD τ sig) (Fin 3) 𝕄 where
  duties g r := if r = 0 ∧ g.1.2 = .tc then (match g.2 with | .reg _ => Finset.univ | .dma _ => {0}) else ∅
  amount g _ _ := match g.2 with | .reg _ => 1 | .dma i => amt (role i)
  payload g _ d := match g.2 with | .reg _ => bpay g.1.1 d | .dma i => pay m g.1.1 (role i)
  amount_pos g _ _ _ := by
    match g.2 with
    | .reg _ => exact Nat.one_pos
    | .dma i => exact amt_pos _

instance xRd_storable (g : GSem nD τ sig) (r : ℕ) (d : Fin 3) : BI.Storable (upEmb : UEmb _ 𝕄) ((xRd m).payload g r d) := by
  obtain ⟨t, sm⟩ := g
  cases sm with
  | reg s => show BI.Storable upEmb (bpay t.1 d); infer_instance
  | dma i => show BI.Storable upEmb (pay m t.1 (role i)); infer_instance

section Sched
variable (c : Dev nD) (i : Fin 55)

/-- A barrier is paid by three. -/
theorem duties_b : (xRd m).duties (bcell c) 0 = Finset.univ := by dsimp only [xRd]; exact if_pos ⟨rfl, rfl⟩
/-- A copy's semaphore is paid once. -/
theorem duties_d : (xRd m).duties (dcell c i) 0 = {0} := by dsimp only [xRd]; exact if_pos ⟨rfl, rfl⟩
/-- After its first round no semaphore is paid. -/
theorem duties_later (g : GSem nD τ sig) : ∀ r, 1 ≤ r → (xRd m).duties g r = ∅ :=
  fun r hr => by dsimp only [xRd]; rw [if_neg fun h => by omega]
/-- A barrier expects three units. -/
theorem expect_b : (xRd m).expect (bcell c) 0 = 3 := by
  unfold Schedule.expect Schedule.amountOf; rw [duties_b]; rfl
/-- A copy's semaphore expects the copy's amount. -/
theorem expect_d : (xRd m).expect (dcell c i) 0 = amt (role i) := by
  unfold Schedule.expect Schedule.amountOf; rw [duties_d, Finset.sum_singleton]; rfl
/-- What a wait for a copy hands over. -/
theorem rest_d : bigSep ((xRd m).duties (dcell c i) 0 \ ∅) (fun d => (xRd m).payload (dcell c i) 0 d) = pay m c (role i) := by
  rw [Finset.sdiff_empty, duties_d, bigSep_singleton]; rfl
/-- What a wait at the barrier hands over. -/
theorem rest_b : bigSep ((xRd m).duties (bcell c) 0 \ ∅) (fun d => (xRd m).payload (bcell c) 0 d)
    = iprop(bpay c 0 ∗ bpay c 1 ∗ bpay c 2) := by
  rw [Finset.sdiff_empty, duties_b, bigSep_univ_eq_bigSepL [0, 1, 2] (by decide) (by decide), bigSepL_cons_cons, bigSepL_cons_cons, bigSepL_singleton]
  rfl

end Sched

/-! ## What a device owes, and the levels -/

/-- The remote blocks in the order a device sends them, last first. -/
def sentL : Fin 17 → Fin 17 := ![16, 10, 15, 14, 9, 8, 13, 7, 12, 6, 11, 5, 4, 3, 2, 1, 0]

/-- The `k`-th last thing device `c` pays to others: the landing of a block, or before all of them a unit on the barrier
    of the previous, the next and the partner device. -/
def due (c : Dev nD) (k : ℕ) : CellTallies nD τ sig Unit :=
  if h : k < 17 then tallyAt (dcell (dest c (sentL ⟨k, h⟩)) (rIx (sentL ⟨k, h⟩))) () (amt (.recv (sentL ⟨k, h⟩)))
  else if k = 17 then tallyAt (bcell (ccw c)) () 1
  else if k = 18 then tallyAt (bcell (cw c)) () 1
  else tallyAt (bcell (yp c)) () 1

/-- What it owes with `n` payments to go. -/
def Ow (c : Dev nD) : ℕ → CellTallies nD τ sig Unit
  | 0 => 0
  | n + 1 => Ow c n + due c n

def L (g : GSem nD τ sig) : Finset Unit := if g.1.2 = .tc then {()} else ∅
/-- Copies of a device's own and sources of transfers lie lowest, then the barrier, then the blocks from the partner, the
    blocks relayed once, the blocks relayed twice. -/
def lvI : SemLoc sig → ℕ
  | .reg _ => 1
  | .dma i => match role i with
    | .recv l => if l.val < 5 then 2 else if l.val < 8 ∨ 11 ≤ l.val ∧ l.val < 14 then 3 else 4
    | _ => 0
def lv (g : GSem nD τ sig) (_ : Unit) : ℕ := lvI g.2

/-- Only the devices' own threads have levels. -/
theorem L_of_ne (g : GSem nD τ sig) (h : g.1.2 ≠ .tc) : L g = ∅ := if_neg h
/-- Each of their semaphores has one. -/
theorem L_tc (c : Dev nD) (sm : SemLoc sig) : L ((c : Thread nD τ), sm) = {()} := if_pos rfl

/-- The level of the `k`-th last payment. -/
def dueLv (k : ℕ) : ℕ := if k < 6 then 4 else if k < 12 then 3 else if k < 17 then 2 else 1

/-- A block's receive semaphore lies at the level of the payment that the block is. -/
theorem dueLv_sent : ∀ k : Fin 17, lvI (.dma (rIx (sentL k) : DmaSem sig)) = dueLv k := by
  intro k; fin_cases k <;> rfl

/-- What is owed is owed to one of those semaphores, at the payment's level. -/
theorem due_pos {c : Dev nD} {k : ℕ} {g : GSem nD τ sig} {u : Unit} (h : 0 < due c k g u) : g.1.2 = .tc ∧ lv g u = dueLv k := by
  have key : ∀ {g' : GSem nD τ sig} {a : ℕ}, 0 < tallyAt g' () a g u → g = g' := by
    intro g' a h'
    rw [tallyAt_apply] at h'
    by_contra hn
    rw [if_neg fun hh => hn hh.1] at h'
    exact Nat.lt_irrefl 0 h'
  unfold due at h
  by_cases h1 : k < 17
  · rw [dif_pos h1] at h
    rw [key h]
    exact ⟨rfl, dueLv_sent ⟨k, h1⟩⟩
  · rw [dif_neg h1] at h
    have h2 : dueLv k = 1 := by unfold dueLv; rw [if_neg (by omega), if_neg (by omega), if_neg h1]
    rw [h2]
    split at h
    · rw [key h]; exact ⟨rfl, rfl⟩
    · split at h <;> (rw [key h]; exact ⟨rfl, rfl⟩)

/-- What is owed among the last `n` payments is owed by one of them. -/
theorem Ow_pos {c : Dev nD} {g : GSem nD τ sig} {u : Unit} : ∀ {n : ℕ}, 0 < Ow c n g u → ∃ k, k < n ∧ 0 < due c k g u
  | 0, h => absurd h (Nat.lt_irrefl 0)
  | n + 1, h => by
    unfold Ow at h
    rw [Pi.add_apply, Finsupp.add_apply] at h
    by_cases h' : 0 < Ow c n g u
    · obtain ⟨k, hk, hd⟩ := Ow_pos h'; exact ⟨k, by omega, hd⟩
    · exact ⟨n, by omega, by omega⟩

/-- A device may wait on a cell of level below everything it still owes. -/
theorem mayWait (c : Dev nD) (sm : SemLoc sig) (n : ℕ) (h : ∀ k, k < n → lvI sm < dueLv k) :
    (levAts L lv : sProp 𝕄) ⊢ MayWait (c : Thread nD τ) sm () (Ow c n) := by
  cases n with
  | zero => unfold Ow; rw [MayWait_zero]; iintro -; iempintro
  | succ n =>
    refine MayOwe.of_cut (L := L) (lev := lv) (lvI sm)
      (fun p hp => by rw [Finset.mem_singleton.mp hp, L_tc]; exact Finset.mem_singleton_self _)
      (fun g u hg => ?_) (fun p hp => by rw [Finset.mem_singleton.mp hp]; exact le_refl _) (fun g u hg => ?_)
    · obtain ⟨k, hk, hd⟩ := Ow_pos hg
      unfold L; rw [if_pos (due_pos hd).1]; exact Finset.mem_singleton_self _
    · obtain ⟨k, hk, hd⟩ := Ow_pos hg
      rw [(due_pos hd).2]; exact h k hk

end Cert.Exchange

end
-- ==== Proof.Steps.lean ====
/-
# One rule per kind of operation

What each of the program's operations takes and gives, for any device, any semaphore and any rows: waiting for a transfer,
a copy of the device's own, a remote copy, a signal, the barrier's wait, a load, a store. What the operations address comes
as whole buffers cut to rectangles of rows; what they own comes as `rows` of the buffers of `Sched.lean`.
-/
module

public import proofs.«01_k».proof.Proof.Sched

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's program run to a postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every operation may use -/

/-- Every cell's invariant, at the name the launch allocated it, and that its round 0 is reached. -/
def rec1 (K : Dev nD × SemLoc sig → ℕ) (x : Dev nD × SemLoc sig) : sProp 𝕄 :=
  iprop(cellInv ER (xRd m) (K x) ((x.1 : Thread nD τ), x.2) ∗ reached ER ((x.1 : Thread nD τ), x.2) 0)
def recs (K : Dev nD × SemLoc sig → ℕ) : sProp 𝕄 := bigSep Finset.univ (rec1 m K)

instance rec1_persistent (K : Dev nD × SemLoc sig → ℕ) (x : Dev nD × SemLoc sig) : BI.Persistent (rec1 m K x) := by
  unfold rec1; infer_instance
instance recs_persistent (K : Dev nD × SemLoc sig → ℕ) : BI.Persistent (recs m K) := by unfold recs; infer_instance

/-- That, and the levels. -/
def env (K : Dev nD × SemLoc sig → ℕ) : sProp 𝕄 := iprop(recs m K ∗ levAts L lv)

instance env_persistent (K : Dev nD × SemLoc sig → ℕ) : BI.Persistent (env m K) := by unfold env; infer_instance

variable (K : Dev nD × SemLoc sig → ℕ)

/-- What is known of all semaphores is known of each. -/
theorem recs_at (x : Dev nD × SemLoc sig) : recs m K ⊢ rec1 m K x := bigSep_elim (Finset.mem_univ x)

/-- Every semaphore has its cell. -/
theorem env_cell (c : Dev nD) (sm : SemLoc sig) : env m K ⊢ cellInv ER (xRd m) (K (c, sm)) ((c : Thread nD τ), sm) := by
  unfold env
  iintro ⟨H, -⟩
  ihave H := (recs_at m K (c, sm)) $$ H
  unfold rec1
  icases H with ⟨H, -⟩
  iexact H

/-- Every cell has reached its first round. -/
theorem env_reached (c : Dev nD) (sm : SemLoc sig) : env m K ⊢ reached ER ((c : Thread nD τ), sm) 0 := by
  unfold env
  iintro ⟨H, -⟩
  ihave H := (recs_at m K (c, sm)) $$ H
  unfold rec1
  icases H with ⟨-, H⟩
  iexact H

/-- A device may wait at a semaphore that lies below its last `n` payments while it owes those. -/
theorem env_wait (c : Dev nD) (sm : SemLoc sig) (n : ℕ) (h : ∀ k, k < n → lvI sm < dueLv k) :
    env m K ⊢ MayWait (c : Thread nD τ) sm () (Ow c n) := by
  unfold env
  iintro ⟨-, H⟩
  iapply (mayWait c sm n h) $$ H

/-! ## What a cell's owner holds -/

/-- Before the transfer a device's own semaphore `i` counts; while it runs; after its wait. -/
def Kit (c : Dev nD) (i : Fin 55) : sProp 𝕄 := iprop(dutyTok ER (dcell c i) 0 0 ∗ atPos ER (dcell c i) 0 ∅ 0)
def Wt (c : Dev nD) (i : Fin 55) : sProp 𝕄 :=
  iprop(cred (tallyAt (dcell c i) () (amt (role i))) ∗ atPos ER (dcell c i) 0 ∅ 0)
def Dn (c : Dev nD) (i : Fin 55) : sProp 𝕄 := atPos ER (dcell c i) (0 + 1) ∅ 0
/-- Before the send of block `l`: the source cell's kit and the landing cell's duty. -/
def KitS (c : Dev nD) (l : Fin 17) : sProp 𝕄 := iprop(Kit c (sIx l) ∗ dutyTok ER (dcell (dest c l) (rIx l)) 0 0)
/-- What the device owes with `n` payments to go, whatever it has waited on. -/
def Owe (c : Dev nD) (n : ℕ) : sProp 𝕄 := iprop(∃ W, owes (c : Thread nD τ) (Ow c n) W)

section Rules

variable {c : Dev nD} {α : Type}

/-! ## Waits -/

/-- Waiting for semaphore `i`'s transfer gives what the transfer leaves. -/
theorem step_wait {Q : α → sProp 𝕄} (i : Fin 55) (n : ℕ) {sem : DmaSem sig} (hs : sem = i) {sp sp' : Space} {s s' : Shape} {e e' : EltTy}
    {src : Memref sig .tc sp' s' e'} {dst : Memref sig .tc sp s e} {h1 : src.view.WordExact} {h2 : dst.view.WordExact}
    (hN : dst.view.dmaCredit = amt (role i)) (hl : ∀ k, k < n → lvI (.dma (i : DmaSem sig)) < dueLv k)
    {k : PUnit → Prog (TpuEff nD τ sig (Elt F) Λ₀ .tc) α} :
    env m K ⊢ iprop(Wt c i -∗ Owe c n -∗ ((Owe c n ∗ Dn c i ∗ pay m c (role i)) -∗ run c (k ⟨⟩) Q)
      -∗ run c (.op (.waitDma2 sem src dst h1 h2) k) Q) := by
  subst hs
  unfold Wt Owe Dn
  iintro #HE ⟨HC, HA⟩ ⟨%W, HO⟩ Hk
  iapply (Rounds.wp_wait_rest_token 𝒱₀ ER (xRd m) (c : Thread nD τ) none (κ := K (c, .dma sem))
      (wpE_waitDma2_eq 𝒱₀ (c : Thread nD τ) none Set.univ) (Set.mem_univ _) () (O := Ow c n) (W := W) (R := 0) (m := 0) (T := ∅)
      (by rw [Nat.zero_add, expect_d m c sem]; exact hN)) $$ [HC HO HA]
  · isplitr; · iapply (env_cell m K c (.dma sem)); iexact HE
    isplitl [HC]; · rw [hN]; iexact HC
    isplitl [HO]; · iexact HO
    isplitr; · iapply (env_wait m K c (.dma sem) n hl); iexact HE
    iexact HA
  iintro ⟨HO, HA, -, HP⟩
  ihave HP := (Entails.of_eq (rest_d m c sem)) $$ HP
  iapply Hk
  isplitl [HO]; · iexists _; iexact HO
  isplitl [HA]; · iexact HA
  iexact HP

/-- The barrier's wait gives what its three payers hand over. -/
theorem step_bwait {Q : α → sProp 𝕄} (n : ℕ) {sem : Sem sig} (hs : sem = barS) {a : ℤ} (ha : a = ((3 : ℕ) : ℤ)) (hl : ∀ k, k < n → 1 < dueLv k)
    {k : PUnit → Prog (TpuEff nD τ sig (Elt F) Λ₀ .tc) α} :
    env m K ⊢ iprop((cred (tallyAt (bcell c) () 3) ∗ atPos ER (bcell c) 0 ∅ 0) -∗ Owe c n
      -∗ ((Owe c n ∗ atPos ER (bcell c) (0 + 1) ∅ 0 ∗ bpay c 0 ∗ bpay c 1 ∗ bpay c 2) -∗ run c (k ⟨⟩) Q)
      -∗ run c (.op (.semWait sem a) k) Q) := by
  subst hs ha
  unfold Owe
  iintro #HE ⟨HC, HA⟩ ⟨%W, HO⟩ Hk
  iapply (Rounds.wp_wait_rest_token 𝒱₀ ER (xRd m) (c : Thread nD τ) none (κ := K (c, .reg barS))
      (wpE_semWait_eq 𝒱₀ (c : Thread nD τ) none Set.univ) (Set.mem_univ _) () (O := Ow c n) (W := W) (R := 0) (m := 0) (T := ∅)
      (by rw [expect_b])) $$ [HC HO HA]
  · isplitr; · iapply (env_cell m K c (.reg barS)); iexact HE
    isplitl [HC]; · iexact HC
    isplitl [HO]; · iexact HO
    isplitr; · iapply (env_wait m K c (.reg barS) n hl); iexact HE
    iexact HA
  iintro ⟨HO, HA, -, HP⟩
  ihave HP := (Entails.of_eq (rest_b m c)) $$ HP
  iapply Hk
  isplitl [HO]; · iexists _; iexact HO
  isplitl [HA]; · iexact HA
  iexact HP

/-- A unit on a neighbour's barrier pays its duty `d`. -/
theorem step_signal {Q : α → sProp 𝕄} (n : ℕ) (d : Fin 3) (c' : Dev nD) {x : Dev nD} (hx : x = c') {sem : Sem sig} (hs : sem = barS)
    {a : ℤ} (ha : a = ((1 : ℕ) : ℤ)) (hdue : due c n = tallyAt (bcell c') () 1) {k : PUnit → Prog (TpuEff nD τ sig (Elt F) Λ₀ .tc) α} :
    env m K ⊢ iprop(dutyTok ER (bcell c') 0 d -∗ bpay c' d -∗ Owe c (n + 1) -∗ (Owe c n -∗ run c (k ⟨⟩) Q)
      -∗ run c (.op (.semSignal (Dev.tc x : Thread nD τ) sem a) k) Q) := by
  subst hx hs ha
  unfold Owe
  iintro #HE HT HP ⟨%W, HO⟩ Hk
  iapply (Rounds.wp_signal 𝒱₀ ER (xRd m) (c : Thread nD τ) none (dst := (x : Thread nD τ)) (sem := barS) (r := 0) (k' := 1) (κ := K (x, .reg barS))
      (d := d) (by rw [duties_b]; exact Finset.mem_univ _) rfl () (Ow c n) (by rw [← hdue])) $$ [HT HP HO]
  · isplitr; · iapply (env_cell m K x (.reg barS)); iexact HE
    isplitl [HO]; · iexact HO
    isplitl [HT]; · iexact HT
    isplitl [HP]; · iapply (show bpay x d ⊢ (xRd m).payload (bcell x) 0 d from BI.Entails.refl _); iexact HP
    iapply (env_reached m K x (.reg barS)); iexact HE
  iintro HO
  iapply Hk
  iexists _; iexact HO

/-! ## Copies -/

/-- A copy of a device's own, on semaphore `i`: the source lent over the elements `S`, which include those read. -/
theorem step_copy {Q : α → sProp 𝕄} (i : Fin 55) {sem : DmaSem sig} (hs : sem = i) {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := .tc) sp (.dma sem) (.here dst)} (hN : dst.view.amount (.dma sem) = amt (role i))
    {S : Finset (Idx (src.view.loc (c : Thread nD τ)))} {q : PosShare TreeShare} {fs : Buf (Elt F) (src.view.loc (c : Thread nD τ))}
    {fd : Buf (Elt F) (dst.view.loc (c : Thread nD τ))} (hS : src.view.set ⊆ S)
    (hpay : iprop((dst.view.loc (c : Thread nD τ) ↦[dst.view.set]{fullShare} dst.view.write (Elt F) fd (src.view.read (Elt F) fs) Finset.univ)
      ∗ (src.view.loc (c : Thread nD τ) ↦[S]{q} fs)) ⊢ pay m c (role i))
    {k : PUnit → Prog (TpuEff nD τ sig (Elt F) Λ₀ .tc) α} :
    env m K ⊢ iprop(Kit c i -∗ (src.view.loc (c : Thread nD τ) ↦[S]{q} fs)
      -∗ (dst.view.loc (c : Thread nD τ) ↦[dst.view.set]{fullShare} fd) -∗ (Wt c i -∗ run c (k ⟨⟩) Q)
      -∗ run c (.op (.enqueueDma src (.here dst) (.dma sem) hsrc hdst hsem) k) Q) := by
  subst hs
  unfold Kit Wt
  iintro #HE ⟨HT, HA⟩ Hs Hd Hk
  ihave Hs := (pointsTo_split_subset hS).1 $$ Hs
  icases Hs with ⟨Hs, Hr⟩
  ihave Hw := (pointsTo_writeUpdate (c : Thread nD τ) (v := dst.view) (w := src.view.read (Elt F) fs) subset_rfl) $$ Hd
  iapply (Rounds.wp_copy 𝒱₀ ER (xRd m) (c : Thread nD τ) none (κ := K (c, .dma sem)) (r := 0) (d := 0)
      (R := iprop((dst.view.loc (c : Thread nD τ) ↦[dst.view.set]{fullShare} dst.view.write (Elt F) fd (src.view.read (Elt F) fs) Finset.univ)
        ∗ (src.view.loc (c : Thread nD τ) ↦[S \ src.view.set]{q} fs)))
      (by rw [duties_d m c sem]; exact Finset.mem_singleton_self _) () (amt (role sem)) hN rfl ?_) $$ [HT Hs Hw Hr]
  · show _ ⊢ pay m c (role sem)
    iintro ⟨⟨Hd, Hr⟩, Hs⟩
    iapply hpay
    isplitl [Hd]; · iexact Hd
    iapply (pointsTo_split_subset hS).2
    isplitl [Hs]; · iexact Hs
    iexact Hr
  · isplitr; · iapply (env_cell m K c (.dma sem)); iexact HE
    isplitl [Hs]; · iexact Hs
    isplitl [Hw Hr]
    · iapply (writeUpdate_frame (c : Thread nD τ))
      isplitl [Hw]; · iexact Hw
      iexact Hr
    isplitl [HT]; · iexact HT
    iapply (env_reached m K c (.dma sem)); iexact HE
  iintro HC
  iapply Hk
  isplitl [HC]; · iexact HC
  iexact HA

/-- The send of block `l` with `n` payments to go after it. -/
theorem step_send {Q : α → sProp 𝕄} (l : Fin 17) (n : ℕ) (hn : n < 17) (hl : sentL ⟨n, hn⟩ = l) {x : Dev nD} (hx : x = dest c l)
    {semS semR : DmaSem sig} (hs : semS = sIx l) (hr : semR = rIx l) {sp sp' : Space} {s : Shape} {e : EltTy}
    {src : Memref sig .tc sp s e} {dst : Memref sig (Dev.tc x : Thread nD τ).2.kind sp' s e} {hsc : dst.view.ref.isScScratch = false}
    {hsrc : src.view.WordExact} {hdst : dst.view.WordExact}
    {hsem : DmaTarget.Typed sp (.dma semR) (.remote (Dev.tc x : Thread nD τ) dst (.dma semS) hsc)}
    (hN : dst.view.amount (.dma semR) = amt (.recv l))
    {q : PosShare TreeShare} {fs : Buf (Elt F) (src.view.loc (c : Thread nD τ))} {fd : Buf (Elt F) (dst.view.loc (x : Thread nD τ))}
    (hpay₁ : (src.view.loc (c : Thread nD τ) ↦[src.view.set]{q} fs) ⊢ pay m c (.send l))
    (hpay₂ : (dst.view.loc (x : Thread nD τ) ↦[dst.view.set]{fullShare} dst.view.write (Elt F) fd (src.view.read (Elt F) fs) Finset.univ)
      ⊢ pay m x (.recv l))
    {k : PUnit → Prog (TpuEff nD τ sig (Elt F) Λ₀ .tc) α} :
    env m K ⊢ iprop(KitS c l -∗ (src.view.loc (c : Thread nD τ) ↦[src.view.set]{q} fs)
      -∗ (dst.view.loc (x : Thread nD τ) ↦[dst.view.set]{fullShare} fd) -∗ Owe c (n + 1)
      -∗ ((Wt c (sIx l) ∗ Owe c n) -∗ run c (k ⟨⟩) Q)
      -∗ run c (.op (.enqueueDma src (.remote (Dev.tc x : Thread nD τ) dst (.dma semS) hsc) (.dma semR) hsrc hdst hsem) k) Q) := by
  subst hx hs hr
  unfold KitS Kit Wt Owe
  rw [role_sIx]
  iintro #HE ⟨⟨HT, HA⟩, HT'⟩ Hs Hd ⟨%W, HO⟩ Hk
  iapply (Rounds.wp_send_pointsTo 𝒱₀ ER (xRd m) (c : Thread nD τ) none (κ₁ := K (c, .dma (sIx l))) (κ₂ := K (dest c l, .dma (rIx l)))
      (r₁ := 0) (r₂ := 0) (d₁ := 0) (d₂ := 0) (fd := fd)
      (by rw [duties_d m c (sIx l)]; exact Finset.mem_singleton_self _)
      (by rw [duties_d m (dest c l) (rIx l)]; exact Finset.mem_singleton_self _)
      () () (amt (.recv l)) hN
      (show (xRd m).amount (dcell c (sIx l)) 0 0 = amt (.recv l) from (congrArg amt (role_sIx l)).trans rfl)
      (show (xRd m).amount (dcell (dest c l) (rIx l)) 0 0 = amt (.recv l) from congrArg amt (role_rIx l)) (Ow c n)
      (show Ow c n + due c n = _ by unfold due; rw [dif_pos hn, hl]) (W := W)
      (show _ ⊢ pay m c (role (sIx l)) by rw [role_sIx]; exact hpay₁)
      (show _ ⊢ pay m (dest c l) (role (rIx l)) by rw [role_rIx]; exact hpay₂)) $$ [Hs Hd HO HT HT']
  · isplitr; · iapply (env_cell m K c (.dma (sIx l))); iexact HE
    isplitr; · iapply (env_cell m K (dest c l) (.dma (rIx l))); iexact HE
    isplitl [Hs]; · iexact Hs
    isplitl [Hd]; · iexact Hd
    isplitl [HO]; · iexact HO
    isplitl [HT]; · iexact HT
    isplitr; · iapply (env_reached m K c (.dma (sIx l))); iexact HE
    isplitl [HT']; · iexact HT'
    iapply (env_reached m K (dest c l) (.dma (rIx l))); iexact HE
  iintro ⟨HC, HO⟩
  iapply Hk
  isplitl [HC HA]
  · isplitl [HC]; · iexact HC
    iexact HA
  iexists _; iexact HO

end Rules

end Cert.Exchange

end
-- ==== Proof.Moves.lean ====
/-
# The program's transfers, loads and stores

The rules of `Steps.lean` at what this program moves: a window of the argument into the stage or the own columns, a staged
block to the partner, a landed block to a neighbour, a finished region out; and loads and stores of rows.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-- The semaphores of the copies to the stage, of the own columns, and out. -/
def stIx (j : Fin 5) : Fin 55 := ⟨34 + j.val, by omega⟩
def myIx (k : Fin 8) : Fin 55 := ⟨39 + k.val, by omega⟩
def ouIx (i : Fin 8) : Fin 55 := ⟨47 + i.val, by omega⟩

/-- The role of a staging copy's semaphore. -/
theorem role_stIx : ∀ j : Fin 5, role (stIx j) = .stage j := by intro j; fin_cases j <;> rfl
/-- The role of the semaphore of a copy of the own columns. -/
theorem role_myIx : ∀ k : Fin 8, role (myIx k) = .mine k := by intro k; fin_cases k <;> rfl
/-- The role of the semaphore of a copy out. -/
theorem role_ouIx : ∀ i : Fin 8, role (ouIx i) = .out i := by intro i; fin_cases i <;> rfl

/-! ## Reading -/

omit [FloatOps F] in
/-- Reading a window of the argument: its entries from the window's corner on. -/
theorem read_x (c : Dev nD) {n a b : ℕ} {off : Fin 3 → ℕ} (h : off = ![0, a, b])
    (inb : ∀ i, off i + (![1, n, 1024] : Fin 3 → ℕ) i ≤ S1x4096x2048.size i)
    (hr : ∀ i, (Rect.unit (s := S1x4096x2048) off ![1, n, 1024] inb).stride i = 1)
    (sq : (⟨3, ![1, n, 1024]⟩ : Shape).Squeezes ⟨2, ![n, 1024]⟩) (j : (⟨2, ![n, 1024]⟩ : Shape).Idx) :
    (((Memref.whole main_arg0).slice (Rect.unit (s := S1x4096x2048) off ![1, n, 1024] inb) hr).squeeze ⟨2, ![n, 1024]⟩ sq).view.read
        (Elt F) (X m c) j = xat m c (a + (j 0).val) (b + (j 1).val) := by
  subst h
  have hj := Shape.reshapeEquiv_cons_one (n := 2) (d := ![n, 1024]) sq.numel_eq j
  have e : (((Memref.whole main_arg0).slice (Rect.unit (s := S1x4096x2048) ![0, a, b] ![1, n, 1024] inb) hr).squeeze ⟨2, ![n, 1024]⟩ sq).view.read
        (Elt F) (X m c) j = X m c ((Rect.unit (s := S1x4096x2048) ![0, a, b] ![1, n, 1024] inb).emb (Shape.reshapeEquiv sq.numel_eq j)) := rfl
  rw [e, hj]
  unfold xat
  have h1 : a + (j 0).val < 4096 := by
    have := inb 1; have h : (j 0).val < n := (j 0).isLt
    have t : a + n ≤ 4096 := this
    omega
  have h2 : b + (j 1).val < 2048 := by
    have := inb 2; have h : (j 1).val < 1024 := (j 1).isLt
    have t : b + 1024 ≤ 2048 := this
    omega
  congr 1
  funext i
  refine Fin.ext ?_
  match i with
  | ⟨0, _⟩ => show 0 + 1 * 0 = 0; rfl
  | ⟨1, _⟩ => show a + 1 * (j 0).val = (a + (j 0).val) % 4096; rw [Nat.mod_eq_of_lt h1]; omega
  | ⟨2, _⟩ => show b + 1 * (j 1).val = (b + (j 1).val) % 2048; rw [Nat.mod_eq_of_lt h2]; omega

section Rules

variable {c : Dev nD} {α : Type}

/-! ## Copies of the argument -/

/-- Copying the stage's block `j`. -/
theorem step_stage {Q : α → sProp 𝕄} (j : Fin 5) {sem : DmaSem sig} (hs : sem = stIx j) {off3 : Fin 3 → ℕ}
    {inb3 : ∀ i, off3 i + S1x256x1024.size i ≤ S1x4096x2048.size i}
    {hr3 : ∀ i, (Rect.unit (s := S1x4096x2048) off3 S1x256x1024.size inb3).stride i = 1} {sq : S1x256x1024.Squeezes S256x1024}
    (h3 : off3 = ![0, srow c (256 * j.val), 1024 * (1 - yy c)]) {off : Fin 2 → ℕ} {inb : ∀ i, off i + S256x1024.size i ≤ S1280x1024.size i}
    {hr : ∀ i, (Rect.unit (s := S1280x1024) off S256x1024.size inb).stride i = 1} (ho : off = ![256 * j.val, 0])
    {fd : Buf (Elt F) ((c : Thread nD τ).loc cc0_scratch1)}
    {hsrc : ((((Memref.whole main_arg0).slice (Rect.unit (s := S1x4096x2048) off3 S1x256x1024.size inb3) hr3).squeeze S256x1024 sq)).view.WordExact}
    {hdst : ((Memref.whole cc0_scratch1).slice (Rect.unit (s := S1280x1024) off S256x1024.size inb) hr).view.WordExact}
    {hsem} {k : PUnit → Prog (TpuEff nD τ sig (Elt F) Λ₀ .tc) α} :
    env m K ⊢ iprop(Kit c (stIx j) -∗ xT m c j.val -∗ sfR c (256 * j.val) 256 fd -∗ (Wt c (stIx j) -∗ run c (k ⟨⟩) Q)
      -∗ run c (.op (.enqueueDma (((Memref.whole main_arg0).slice (Rect.unit (s := S1x4096x2048) off3 S1x256x1024.size inb3) hr3).squeeze S256x1024 sq)
          (.here ((Memref.whole cc0_scratch1).slice (Rect.unit (s := S1280x1024) off S256x1024.size inb) hr)) (.dma sem) hsrc hdst hsem) k) Q) := by
  have hset : ((Memref.whole cc0_scratch1).slice (Rect.unit (s := S1280x1024) off S256x1024.size inb) hr).view.set
      = (rows (256 * j.val) 256 : Finset S1280x1024.Idx) := (View.set_slice_whole cc0_scratch1 _).trans (set_unit_rows ho inb)
  have h := step_copy (Q := Q) (c := c) m K (stIx j) hs
    (src := ((Memref.whole main_arg0).slice (Rect.unit (s := S1x4096x2048) off3 S1x256x1024.size inb3) hr3).squeeze S256x1024 sq)
    (dst := (Memref.whole cc0_scratch1).slice (Rect.unit (s := S1280x1024) off S256x1024.size inb) hr) (hsrc := hsrc) (hdst := hdst)
    (hsem := hsem) (by rw [role_stIx]; rfl) (S := Finset.univ) (q := Transfers.shareTokN fullShare j.val) (fs := X m c) (fd := fd)
    (Finset.subset_univ _) (by
      rw [role_stIx]
      refine sep_mono_left (Entails.of_eq ((landed (b := cc0_scratch1) (Rect.unit (s := S1280x1024) off S256x1024.size inb) hr c fd (SF m c) _ fun t => ?_).trans ?_))
      · refine (read_x m c h3 inb3 hr3 sq t).trans ?_
        subst ho
        show _ = xat m c (srow c (256 * j.val + 1 * (t 0).val)) (1024 * (1 - yy c) + (0 + 1 * (t 1).val))
        have ht : (t 0).val < 256 := (t 0).isLt
        congr 1
        · unfold srow
          fin_cases j <;> simp <;> (try split) <;> omega
        · omega
      · rw [set_unit_rows ho inb]) (k := k)
  rw [hset] at h
  exact h

/-- Copying the own columns' block `k`. -/
theorem step_mine {Q : α → sProp 𝕄} (j : Fin 8) {sem : DmaSem sig} (hs : sem = myIx j) {off3 : Fin 3 → ℕ}
    {inb3 : ∀ i, off3 i + S1x512x1024.size i ≤ S1x4096x2048.size i}
    {hr3 : ∀ i, (Rect.unit (s := S1x4096x2048) off3 S1x512x1024.size inb3).stride i = 1} {sq : S1x512x1024.Squeezes S512x1024}
    (h3 : off3 = ![0, 512 * j.val, 1024 * yy c]) {off : Fin 2 → ℕ} {inb : ∀ i, off i + S512x1024.size i ≤ S4096x1024.size i}
    {hr : ∀ i, (Rect.unit (s := S4096x1024) off S512x1024.size inb).stride i = 1} (ho : off = ![512 * j.val, 0])
    {fd : Buf (Elt F) ((c : Thread nD τ).loc cc0_scratch3)}
    {hsrc : ((((Memref.whole main_arg0).slice (Rect.unit (s := S1x4096x2048) off3 S1x512x1024.size inb3) hr3).squeeze S512x1024 sq)).view.WordExact}
    {hdst : ((Memref.whole cc0_scratch3).slice (Rect.unit (s := S4096x1024) off S512x1024.size inb) hr).view.WordExact}
    {hsem} {k : PUnit → Prog (TpuEff nD τ sig (Elt F) Λ₀ .tc) α} :
    env m K ⊢ iprop(Kit c (myIx j) -∗ xT m c (5 + j.val) -∗ myR c (512 * j.val) 512 fd -∗ (Wt c (myIx j) -∗ run c (k ⟨⟩) Q)
      -∗ run c (.op (.enqueueDma (((Memref.whole main_arg0).slice (Rect.unit (s := S1x4096x2048) off3 S1x512x1024.size inb3) hr3).squeeze S512x1024 sq)
          (.here ((Memref.whole cc0_scratch3).slice (Rect.unit (s := S4096x1024) off S512x1024.size inb) hr)) (.dma sem) hsrc hdst hsem) k) Q) := by
  have hset : ((Memref.whole cc0_scratch3).slice (Rect.unit (s := S4096x1024) off S512x1024.size inb) hr).view.set
      = (rows (512 * j.val) 512 : Finset S4096x1024.Idx) := (View.set_slice_whole cc0_scratch3 _).trans (set_unit_rows ho inb)
  have h := step_copy (Q := Q) (c := c) m K (myIx j) hs
    (src := ((Memref.whole main_arg0).slice (Rect.unit (s := S1x4096x2048) off3 S1x512x1024.size inb3) hr3).squeeze S512x1024 sq)
    (dst := (Memref.whole cc0_scratch3).slice (Rect.unit (s := S4096x1024) off S512x1024.size inb) hr) (hsrc := hsrc) (hdst := hdst)
    (hsem := hsem) (by rw [role_myIx]; rfl) (S := Finset.univ) (q := Transfers.shareTokN fullShare (5 + j.val)) (fs := X m c) (fd := fd)
    (Finset.subset_univ _) (by
      rw [role_myIx]
      refine sep_mono_left (Entails.of_eq ((landed (b := cc0_scratch3) (Rect.unit (s := S4096x1024) off S512x1024.size inb) hr c fd (MY m c) _ fun t => ?_).trans ?_))
      · refine (read_x m c h3 inb3 hr3 sq t).trans ?_
        subst ho
        show _ = xat m c (512 * j.val + 1 * (t 0).val) (1024 * yy c + (0 + 1 * (t 1).val))
        rw [Nat.one_mul, Nat.one_mul, Nat.zero_add]
      · rw [set_unit_rows ho inb]) (k := k)
  rw [hset] at h
  exact h

/-- Copying region `i` out. -/
theorem step_out {Q : α → sProp 𝕄} (i : Fin 8) {n : ℕ} (hn : n = rn i) {sem : DmaSem sig} (hs : sem = ouIx i)
    {off off' : Fin 2 → ℕ} {inb : ∀ a, off a + (![n, 1024] : Fin 2 → ℕ) a ≤ S4096x1024.size a}
    {inb' : ∀ a, off' a + (![n, 1024] : Fin 2 → ℕ) a ≤ S4096x1024.size a}
    {hr : ∀ a, (Rect.unit (s := S4096x1024) off ![n, 1024] inb).stride a = 1}
    {hr' : ∀ a, (Rect.unit (s := S4096x1024) off' ![n, 1024] inb').stride a = 1}
    (ho : off = ![rlo c i, 0]) (ho' : off' = ![rlo c i, 0])
    {fd : Buf (Elt F) ((c : Thread nD τ).loc main_v1)}
    {hsrc : ((Memref.whole cc0_scratch4).slice (Rect.unit (s := S4096x1024) off ![n, 1024] inb) hr).view.WordExact}
    {hdst : ((Memref.whole main_v1).slice (Rect.unit (s := S4096x1024) off' ![n, 1024] inb') hr').view.WordExact}
    {hsem} {k : PUnit → Prog (TpuEff nD τ sig (Elt F) Λ₀ .tc) α} :
    env m K ⊢ iprop(Kit c (ouIx i) -∗ ovR c (rlo c i) (rn i) (OV m c) -∗ resR c (rlo c i) (rn i) fd -∗ (Wt c (ouIx i) -∗ run c (k ⟨⟩) Q)
      -∗ run c (.op (.enqueueDma ((Memref.whole cc0_scratch4).slice (Rect.unit (s := S4096x1024) off ![n, 1024] inb) hr)
          (.here ((Memref.whole main_v1).slice (Rect.unit (s := S4096x1024) off' ![n, 1024] inb') hr')) (.dma sem) hsrc hdst hsem) k) Q) := by
  subst hn
  have hset : ((Memref.whole cc0_scratch4).slice (Rect.unit (s := S4096x1024) off ![rn i, 1024] inb) hr).view.set
      = (rows (rlo c i) (rn i) : Finset S4096x1024.Idx) := (View.set_slice_whole cc0_scratch4 _).trans (set_unit_rows ho inb)
  have hset' : ((Memref.whole main_v1).slice (Rect.unit (s := S4096x1024) off' ![rn i, 1024] inb') hr').view.set
      = (rows (rlo c i) (rn i) : Finset S4096x1024.Idx) := (View.set_slice_whole main_v1 _).trans (set_unit_rows ho' inb')
  have h := step_copy (Q := Q) (c := c) m K (ouIx i) hs
    (src := (Memref.whole cc0_scratch4).slice (Rect.unit (s := S4096x1024) off ![rn i, 1024] inb) hr)
    (dst := (Memref.whole main_v1).slice (Rect.unit (s := S4096x1024) off' ![rn i, 1024] inb') hr') (hsrc := hsrc) (hdst := hdst)
    (hsem := hsem) (by rw [role_ouIx]; rfl) (S := (rows (rlo c i) (rn i) : Finset S4096x1024.Idx)) (q := fullShare) (fs := OV m c) (fd := fd)
    hset.subset (by
      rw [role_ouIx]
      refine sep_mono_left (Entails.of_eq ((landed (b := main_v1) (Rect.unit (s := S4096x1024) off' ![rn i, 1024] inb') hr' c fd (RES m c) _ fun t => ?_).trans ?_))
      · subst ho ho'; rfl
      · rw [set_unit_rows ho' inb']) (k := k)
  rw [hset'] at h
  exact h

/-! ## Remote blocks -/

/-- Sending the staged block `l` to the partner. -/
theorem step_y {Q : α → sProp 𝕄} (l : Fin 17) (h5 : l.val < 5) (n : ℕ) (hn : n < 17) (hl : sentL ⟨n, hn⟩ = l) {x : Dev nD} (hx : x = yp c)
    {semS semR : DmaSem sig} (hs : semS = sIx l) (hrx : semR = rIx l)
    {off off' : Fin 2 → ℕ} {inb : ∀ a, off a + S256x1024.size a ≤ S1280x1024.size a}
    {inb' : ∀ a, off' a + S256x1024.size a ≤ S4096x1024.size a}
    {hr : ∀ a, (Rect.unit (s := S1280x1024) off S256x1024.size inb).stride a = 1}
    {hr' : ∀ a, (Rect.unit (s := S4096x1024) off' S256x1024.size inb').stride a = 1}
    (ho : off = ![256 * l.val, 0]) (ho' : off' = ![lo c l, 0])
    {hsc : ((Memref.whole cc0_scratch0).slice (Rect.unit (s := S4096x1024) off' S256x1024.size inb') hr' : Memref sig (Dev.tc x : Thread nD τ).2.kind .vmem S256x1024 .bf16).view.ref.isScScratch = false}
    {hsrc : ((Memref.whole cc0_scratch2).slice (Rect.unit (s := S1280x1024) off S256x1024.size inb) hr).view.WordExact}
    {hdst : ((Memref.whole cc0_scratch0).slice (Rect.unit (s := S4096x1024) off' S256x1024.size inb') hr').view.WordExact}
    {hsem} {k : PUnit → Prog (TpuEff nD τ sig (Elt F) Λ₀ .tc) α} :
    env m K ⊢ iprop(KitS c l -∗ sbR c (256 * l.val) 256 (SB m c) -∗ land c l -∗ Owe c (n + 1)
      -∗ ((Wt c (sIx l) ∗ Owe c n) -∗ run c (k ⟨⟩) Q)
      -∗ run c (.op (.enqueueDma ((Memref.whole cc0_scratch2).slice (Rect.unit (s := S1280x1024) off S256x1024.size inb) hr)
          (.remote (Dev.tc x : Thread nD τ) ((Memref.whole cc0_scratch0).slice (Rect.unit (s := S4096x1024) off' S256x1024.size inb') hr') (.dma semS) hsc)
          (.dma semR) hsrc hdst hsem) k) Q) := by
  have hd : dest c l = yp c := if_pos h5
  have hlo : lo (yp c) l = lo c l := lo_yp c l
  have hnn : nn l = 256 := by revert h5; revert l; intro l; fin_cases l <;> simp [nn]
  have hset : ((Memref.whole cc0_scratch2).slice (Rect.unit (s := S1280x1024) off S256x1024.size inb) hr).view.set
      = (rows (256 * l.val) 256 : Finset S1280x1024.Idx) := (View.set_slice_whole cc0_scratch2 _).trans (set_unit_rows ho inb)
  have hset' : ((Memref.whole cc0_scratch0).slice (Rect.unit (s := S4096x1024) off' S256x1024.size inb') hr').view.set
      = (rows (lo c l) 256 : Finset S4096x1024.Idx) := (View.set_slice_whole cc0_scratch0 _).trans (set_unit_rows ho' inb')
  have hpay : pay m c (.send l) = sbR c (256 * l.val) 256 (SB m c) := if_pos h5
  unfold land
  iintro #HE HK Hs ⟨%fd, Hd⟩ HO Hk
  rw [hd, hlo, hnn]
  have h := step_send (Q := Q) (c := c) m K l n hn hl (hx.trans hd.symm) hs hrx
    (src := (Memref.whole cc0_scratch2).slice (Rect.unit (s := S1280x1024) off S256x1024.size inb) hr)
    (dst := (Memref.whole cc0_scratch0).slice (Rect.unit (s := S4096x1024) off' S256x1024.size inb') hr') (hsc := hsc) (hsrc := hsrc) (hdst := hdst)
    (hsem := hsem) (by show _ = cc0_scratch0.dmaCredit ⟨2, ![nn l, 1024]⟩ .bf16; rw [hnn]; rfl) (q := fullShare) (fs := SB m c) (fd := hx ▸ fd)
    (by rw [hset, hpay])
    (by
      subst hx
      refine Entails.of_eq ((landed (b := cc0_scratch0) (Rect.unit (s := S4096x1024) off' S256x1024.size inb') hr' (yp c) fd (D m (yp c)) _ fun t => ?_).trans ?_)
      · subst ho ho'
        exact D_yp m c ⟨l.val, h5⟩ (lo c l + 1 * (t 0).val) (0 + 1 * (t 1).val) (t 0).val (0 + 1 * (t 1).val) (256 * l.val + 1 * (t 0).val)
          (t 0).isLt (by rw [Nat.one_mul (t 0).val]; rfl) (by rw [Nat.one_mul (t 0).val]) rfl
      · rw [set_unit_rows ho' inb']; show _ = dR (yp c) fullShare (lo (yp c) l) (nn l) (D m (yp c)); rw [hlo, hnn]) (k := k)
  rw [hset, hset'] at h
  subst hx
  iapply h $$ HE HK Hs Hd HO Hk

/-- Sending a landed block on to a neighbour as block `l`. -/
theorem step_relay {Q : α → sProp 𝕄} (l : Fin 17) (h5 : 5 ≤ l.val) (n : ℕ) (hn : n < 17) (hl : sentL ⟨n, hn⟩ = l) {x : Dev nD} (hx : x = dest c l)
    {semS semR : DmaSem sig} (hs : semS = sIx l) (hrx : semR = rIx l) {w : ℕ} (hw : w = nn l)
    {off : Fin 2 → ℕ} {inb : ∀ a, off a + (![w, 1024] : Fin 2 → ℕ) a ≤ S4096x1024.size a}
    {hr hr' : ∀ a, (Rect.unit (s := S4096x1024) off ![w, 1024] inb).stride a = 1}
    (ho : off = ![lo (dest c l) l, 0])
    {hsc : ((Memref.whole cc0_scratch0).slice (Rect.unit (s := S4096x1024) off ![w, 1024] inb) hr' : Memref sig (Dev.tc x : Thread nD τ).2.kind .vmem ⟨2, ![w, 1024]⟩ .bf16).view.ref.isScScratch = false}
    {hsrc : ((Memref.whole cc0_scratch0).slice (Rect.unit (s := S4096x1024) off ![w, 1024] inb) hr).view.WordExact}
    {hdst : ((Memref.whole cc0_scratch0).slice (Rect.unit (s := S4096x1024) off ![w, 1024] inb) hr').view.WordExact}
    {hsem} {k : PUnit → Prog (TpuEff nD τ sig (Elt F) Λ₀ .tc) α} :
    env m K ⊢ iprop(KitS c l -∗ dR c (qS l) (lo (dest c l) l) (nn l) (D m c) -∗ land c l -∗ Owe c (n + 1)
      -∗ ((Wt c (sIx l) ∗ Owe c n) -∗ run c (k ⟨⟩) Q)
      -∗ run c (.op (.enqueueDma ((Memref.whole cc0_scratch0).slice (Rect.unit (s := S4096x1024) off ![w, 1024] inb) hr)
          (.remote (Dev.tc x : Thread nD τ) ((Memref.whole cc0_scratch0).slice (Rect.unit (s := S4096x1024) off ![w, 1024] inb) hr') (.dma semS) hsc)
          (.dma semR) hsrc hdst hsem) k) Q) := by
  subst hx hw
  have hset : ((Memref.whole cc0_scratch0).slice (Rect.unit (s := S4096x1024) off ![nn l, 1024] inb) hr).view.set
      = (rows (lo (dest c l) l) (nn l) : Finset S4096x1024.Idx) := (View.set_slice_whole cc0_scratch0 _).trans (set_unit_rows ho inb)
  have hpay : pay m c (.send l) = dR c (qS l) (lo (dest c l) l) (nn l) (D m c) := if_neg (by omega)
  unfold land
  iintro #HE HK Hs ⟨%fd, Hd⟩ HO Hk
  have h := step_send (Q := Q) (c := c) m K l n hn hl rfl hs hrx
    (src := (Memref.whole cc0_scratch0).slice (Rect.unit (s := S4096x1024) off ![nn l, 1024] inb) hr)
    (dst := (Memref.whole cc0_scratch0).slice (Rect.unit (s := S4096x1024) off ![nn l, 1024] inb) hr') (hsc := hsc) (hsrc := hsrc) (hdst := hdst)
    (hsem := hsem) rfl (q := qS l) (fs := D m c) (fd := fd)
    (by rw [hset, hpay])
    (by
      refine Entails.of_eq ((landed (b := cc0_scratch0) (Rect.unit (s := S4096x1024) off ![nn l, 1024] inb) hr' (dest c l) fd (D m (dest c l)) _ fun t => ?_).trans ?_)
      · subst ho
        exact D_relay m c l h5 (lo (dest c l) l + 1 * (t 0).val) (0 + 1 * (t 1).val) (0 + 1 * (t 1).val) (t 0).val
          (t 0).isLt (by rw [Nat.one_mul (t 0).val]) rfl
      · rw [set_unit_rows ho inb]; rfl) (k := k)
  rw [hset] at h
  iapply h $$ HE HK Hs Hd HO Hk

/-! ## Loads and stores of rows -/

abbrev dM : Memref sig .tc .vmem S4096x1024 .bf16 := Memref.whole cc0_scratch0
abbrev sfM : Memref sig .tc .vmem S1280x1024 .f32 := Memref.whole cc0_scratch1
abbrev sbM : Memref sig .tc .vmem S1280x1024 .bf16 := Memref.whole cc0_scratch2
abbrev myM : Memref sig .tc .vmem S4096x1024 .f32 := Memref.whole cc0_scratch3
abbrev ovM : Memref sig .tc .vmem S4096x1024 .f32 := Memref.whole cc0_scratch4

omit [FloatOps F] in
/-- A whole buffer's view leaves a set of indices as it is. -/
theorem whole_setOn (b : Ref sig .tc) (S : Finset b.ty.shape.Idx) : (Memref.whole b).view.setOn S = S := by
  ext i; simp [View.setOn]

/-- A load of rows of the f32 staging buffer. -/
theorem ld_sf {Q : α → sProp 𝕄} {lo n : ℕ} {off : Fin 2 → ℕ} {inb : ∀ a, off a + (![n, 1024] : Fin 2 → ℕ) a ≤ S1280x1024.size a}
    (ho : off = ![lo, 0]) {hl} {f : Buf (Elt F) ((c : Thread nD τ).loc cc0_scratch1)}
    {k : ((Rect.unit (s := S1280x1024) off ![n, 1024] inb).toLoadRect.shape.Idx → Elt F .f32) → Prog (TpuEff nD τ sig (Elt F) Λ₀ .tc) α} :
    sfR c lo n f ⊢ iprop((sfR c lo n f -∗ run c (k (sfM.view.readAt (Elt F) (Rect.unit (s := S1280x1024) off ![n, 1024] inb).toLoadRect f)) Q)
      -∗ run c (.op (.load sfM (Rect.unit (s := S1280x1024) off ![n, 1024] inb).toLoadRect hl) k) Q) :=
  wp_load 𝒱₀ (c : Thread nD τ) none Set.univ (m := sfM) (by rw [whole_setOn]; exact (set_unit_rows ho inb).subset)

/-- A load of rows of the bf16 staging buffer. -/
theorem ld_sb {Q : α → sProp 𝕄} {lo n : ℕ} {off : Fin 2 → ℕ} {inb : ∀ a, off a + (![n, 1024] : Fin 2 → ℕ) a ≤ S1280x1024.size a}
    (ho : off = ![lo, 0]) {hl} {f : Buf (Elt F) ((c : Thread nD τ).loc cc0_scratch2)}
    {k : ((Rect.unit (s := S1280x1024) off ![n, 1024] inb).toLoadRect.shape.Idx → Elt F .bf16) → Prog (TpuEff nD τ sig (Elt F) Λ₀ .tc) α} :
    sbR c lo n f ⊢ iprop((sbR c lo n f -∗ run c (k (sbM.view.readAt (Elt F) (Rect.unit (s := S1280x1024) off ![n, 1024] inb).toLoadRect f)) Q)
      -∗ run c (.op (.load sbM (Rect.unit (s := S1280x1024) off ![n, 1024] inb).toLoadRect hl) k) Q) :=
  wp_load 𝒱₀ (c : Thread nD τ) none Set.univ (m := sbM) (by rw [whole_setOn]; exact (set_unit_rows ho inb).subset)

/-- A load of landing rows, at any share. -/
theorem ld_d {Q : α → sProp 𝕄} {lo n : ℕ} {off : Fin 2 → ℕ} {inb : ∀ a, off a + (![n, 1024] : Fin 2 → ℕ) a ≤ S4096x1024.size a}
    (ho : off = ![lo, 0]) {hl} {q : PosShare TreeShare} {f : Buf (Elt F) ((c : Thread nD τ).loc cc0_scratch0)}
    {k : ((Rect.unit (s := S4096x1024) off ![n, 1024] inb).toLoadRect.shape.Idx → Elt F .bf16) → Prog (TpuEff nD τ sig (Elt F) Λ₀ .tc) α} :
    dR c q lo n f ⊢ iprop((dR c q lo n f -∗ run c (k (dM.view.readAt (Elt F) (Rect.unit (s := S4096x1024) off ![n, 1024] inb).toLoadRect f)) Q)
      -∗ run c (.op (.load dM (Rect.unit (s := S4096x1024) off ![n, 1024] inb).toLoadRect hl) k) Q) :=
  wp_load 𝒱₀ (c : Thread nD τ) none Set.univ (m := dM) (by rw [whole_setOn]; exact (set_unit_rows ho inb).subset)

/-- A load of rows of the buffer of the sums. -/
theorem ld_ov {Q : α → sProp 𝕄} {lo n : ℕ} {off : Fin 2 → ℕ} {inb : ∀ a, off a + (![n, 1024] : Fin 2 → ℕ) a ≤ S4096x1024.size a}
    (ho : off = ![lo, 0]) {hl} {f : Buf (Elt F) ((c : Thread nD τ).loc cc0_scratch4)}
    {k : ((Rect.unit (s := S4096x1024) off ![n, 1024] inb).toLoadRect.shape.Idx → Elt F .f32) → Prog (TpuEff nD τ sig (Elt F) Λ₀ .tc) α} :
    ovR c lo n f ⊢ iprop((ovR c lo n f -∗ run c (k (ovM.view.readAt (Elt F) (Rect.unit (s := S4096x1024) off ![n, 1024] inb).toLoadRect f)) Q)
      -∗ run c (.op (.load ovM (Rect.unit (s := S4096x1024) off ![n, 1024] inb).toLoadRect hl) k) Q) :=
  wp_load 𝒱₀ (c : Thread nD τ) none Set.univ (m := ovM) (by rw [whole_setOn]; exact (set_unit_rows ho inb).subset)

/-- The own columns, held whole. -/
abbrev myAll (c : Dev nD) : sProp 𝕄 := ((c : Thread nD τ).loc cc0_scratch3) ↦{fullShare} MY m c

/-- A load of rows of the own columns. -/
theorem ld_my {Q : α → sProp 𝕄} {r : Rect S4096x1024} {hl}
    {k : (r.toLoadRect.shape.Idx → Elt F .f32) → Prog (TpuEff nD τ sig (Elt F) Λ₀ .tc) α} :
    myAll m c ⊢ iprop((myAll m c -∗ run c (k (myM.view.readAt (Elt F) r.toLoadRect (MY m c))) Q) -∗ run c (.op (.load myM r.toLoadRect hl) k) Q) :=
  wp_load 𝒱₀ (c : Thread nD τ) none Set.univ (m := myM) (Finset.subset_univ _)

/-- Storing a staged block's narrowed rows. -/
theorem st_sb {Q : α → sProp 𝕄} {lo n : ℕ} {off : Fin 2 → ℕ} {inb : ∀ a, off a + (![n, 1024] : Fin 2 → ℕ) a ≤ S1280x1024.size a}
    (ho : off = ![lo, 0]) {w : (Rect.unit (s := S1280x1024) off ![n, 1024] inb).shape.Idx → Elt F .bf16} {hx hm}
    (hw : ∀ j, w j = SB m c ((Rect.unit (s := S1280x1024) off ![n, 1024] inb).emb j))
    {f : Buf (Elt F) ((c : Thread nD τ).loc cc0_scratch2)} {k : PUnit → Prog (TpuEff nD τ sig (Elt F) Λ₀ .tc) α} :
    sbR c lo n f ⊢ iprop((sbR c lo n (SB m c) -∗ run c (k ⟨⟩) Q)
      -∗ run c (.op (.store sbM (Rect.unit (s := S1280x1024) off ![n, 1024] inb) w Finset.univ hx hm) k) Q) := by
  have hset := set_unit_rows ho inb
  have h : sbR c lo n f ⊢ iprop((((c : Thread nD τ).loc cc0_scratch2 ↦[(rows lo n : Finset S1280x1024.Idx)]{fullShare}
        ((sbM.access (Rect.unit (s := S1280x1024) off ![n, 1024] inb)).write (Elt F) f w Finset.univ)) -∗ run c (k ⟨⟩) Q)
      -∗ run c (.op (.store sbM (Rect.unit (s := S1280x1024) off ![n, 1024] inb) w Finset.univ hx hm) k) Q) :=
    wp_store 𝒱₀ (c : Thread nD τ) none Set.univ (m := sbM) (r := Rect.unit (s := S1280x1024) off ![n, 1024] inb) (Mk := Finset.univ) (by refine Eq.subset (Eq.trans ?_ hset); exact View.set_slice_whole cc0_scratch2 _)
  have hl := landed (b := cc0_scratch2) (Rect.unit (s := S1280x1024) off ![n, 1024] inb) (fun _ => rfl) c (q := fullShare) f (SB m c) w hw
  rw [show ((Memref.whole cc0_scratch2).slice (Rect.unit (s := S1280x1024) off ![n, 1024] inb) (fun _ => rfl)).view.set = rows lo n from
    (View.set_slice_whole cc0_scratch2 _).trans hset, hset] at hl
  iintro H Hk
  iapply h $$ H
  iintro H
  iapply Hk
  ihave H := (Entails.of_eq hl) $$ H
  iexact H

/-- Storing a region's sum. -/
theorem st_ov {Q : α → sProp 𝕄} {lo n : ℕ} {off : Fin 2 → ℕ} {inb : ∀ a, off a + (![n, 1024] : Fin 2 → ℕ) a ≤ S4096x1024.size a}
    (ho : off = ![lo, 0]) {w : (Rect.unit (s := S4096x1024) off ![n, 1024] inb).shape.Idx → Elt F .f32} {hx hm}
    (hw : ∀ j, w j = OV m c ((Rect.unit (s := S4096x1024) off ![n, 1024] inb).emb j))
    {f : Buf (Elt F) ((c : Thread nD τ).loc cc0_scratch4)} {k : PUnit → Prog (TpuEff nD τ sig (Elt F) Λ₀ .tc) α} :
    ovR c lo n f ⊢ iprop((ovR c lo n (OV m c) -∗ run c (k ⟨⟩) Q)
      -∗ run c (.op (.store ovM (Rect.unit (s := S4096x1024) off ![n, 1024] inb) w Finset.univ hx hm) k) Q) := by
  have hset := set_unit_rows ho inb
  have h : ovR c lo n f ⊢ iprop((((c : Thread nD τ).loc cc0_scratch4 ↦[(rows lo n : Finset S4096x1024.Idx)]{fullShare}
        ((ovM.access (Rect.unit (s := S4096x1024) off ![n, 1024] inb)).write (Elt F) f w Finset.univ)) -∗ run c (k ⟨⟩) Q)
      -∗ run c (.op (.store ovM (Rect.unit (s := S4096x1024) off ![n, 1024] inb) w Finset.univ hx hm) k) Q) :=
    wp_store 𝒱₀ (c : Thread nD τ) none Set.univ (m := ovM) (r := Rect.unit (s := S4096x1024) off ![n, 1024] inb) (Mk := Finset.univ) (by refine Eq.subset (Eq.trans ?_ hset); exact View.set_slice_whole cc0_scratch4 _)
  have hl := landed (b := cc0_scratch4) (Rect.unit (s := S4096x1024) off ![n, 1024] inb) (fun _ => rfl) c (q := fullShare) f (OV m c) w hw
  rw [show ((Memref.whole cc0_scratch4).slice (Rect.unit (s := S4096x1024) off ![n, 1024] inb) (fun _ => rfl)).view.set = rows lo n from
    (View.set_slice_whole cc0_scratch4 _).trans hset, hset] at hl
  iintro H Hk
  iapply h $$ H
  iintro H
  iapply Hk
  ihave H := (Entails.of_eq hl) $$ H
  iexact H

end Rules

end Cert.Exchange

end
-- ==== Proof.Copies.lean ====
/-
# The body's copies of its own, and the barrier

The parts of the body that copy the device's own rows to the stage and its own columns, and exchange a unit with three
neighbours, each device handing each neighbour the blocks of its landing buffer that neighbour writes.
-/
module

public import proofs.«01_k».proof.Proof.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-- A part of the body at the operands the kernel is called with. -/
abbrev atArgs {β : Type 1}
    (f : (arg0 : Memref sig .tc .hbm S1x4096x2048 .f32) → arg0.IsWhole → (arg1 : Memref sig .tc .hbm S4096x1024 .f32) → arg1.IsWhole
      → (arg2 : Memref sig .tc .vmem S4096x1024 .bf16) → arg2.IsWhole → (arg3 : Memref sig .tc .vmem S1280x1024 .f32) → arg3.IsWhole
      → (arg4 : Memref sig .tc .vmem S1280x1024 .bf16) → arg4.IsWhole → (arg5 : Memref sig .tc .vmem S4096x1024 .f32) → arg5.IsWhole
      → (arg6 : Memref sig .tc .vmem S4096x1024 .f32) → arg6.IsWhole → DmaSems sig S5 → DmaSems sig S5 → DmaSems sig S6 → DmaSems sig S6
      → DmaSems sig S6 → DmaSems sig S6 → DmaSems sig S5 → DmaSems sig S8 → DmaSems sig S8 → β) : β :=
  f (Memref.whole main_arg0) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12 cc0_scratch13

/-! ## What the copies need -/

/-- Before the copy of the stage's block `j`; before the copy of the own columns' block `k`. -/
def stPre (c : Dev nD) (j : Fin 5) : sProp 𝕄 := iprop(Kit c (stIx j) ∗ xT m c j.val ∗ ∃ f, sfR c (256 * j.val) 256 f)
def myPre (c : Dev nD) (k : Fin 8) : sProp 𝕄 := iprop(Kit c (myIx k) ∗ xT m c (5 + k.val) ∗ ∃ f, myR c (512 * k.val) 512 f)

/-- A returning program gives its postcondition. -/
theorem run_ret {c : Dev nD} {α : Type} {a : α} {Q : α → sProp 𝕄} : Q a ⊢ run (F := F) c (Prog.ret a) Q := by
  iintro H
  unfold run
  rw [wp_ret]; imodintro
  iexact H

section Parts

variable (c : Dev nD)

/-- The first staging copy starts. -/
theorem part4 {Q : _ → sProp 𝕄} (v5 v21 v99 v117 : BitVec 32) :
    env m K ⊢ iprop(stPre m c 0 -∗ (∀ r, Wt c (stIx 0) -∗ Q r) -∗ run c (atArgs (k0_part4 (F := F)) c v5 v21 v99 v117) Q) := by
  simp only [atArgs, k0_part4_eq_skeleton]
  unfold k0_part4_skel stPre
  simp only [Prog.lift, Prog.bind_op, Prog.bind_ret, Prog.pure_eq_ret]
  iintro #HE ⟨HK, HX, %f, HS⟩ Hk
  iapply (step_stage m K 0 rfl (off1_0 c) rfl) $$ HE HK HX HS
  iintro HW
  iapply run_ret
  iapply Hk
  iexact HW

/-- Staging copies 1, 2 and 3 start. -/
theorem part5 {Q : _ → sProp 𝕄} (v21 v31 : BitVec 32) :
    env m K ⊢ iprop((stPre m c 1 ∗ stPre m c 2 ∗ stPre m c 3)
      -∗ ((Wt c (stIx 1) ∗ Wt c (stIx 2) ∗ Wt c (stIx 3)) -∗ Q ⟨⟩) -∗ run c (atArgs (k0_part5 (F := F)) c v21 v31) Q) := by
  simp only [atArgs, k0_part5_eq_skeleton]
  unfold k0_part5_skel stPre
  simp only [Prog.lift, Prog.bind_op, Prog.bind_ret, Prog.pure_eq_ret]
  iintro #HE ⟨⟨HK1, HX1, %f1, HS1⟩, ⟨HK2, HX2, %f2, HS2⟩, HK3, HX3, %f3, HS3⟩ Hk
  iapply (step_stage m K 1 rfl (off1_1 c) rfl) $$ HE HK1 HX1 HS1; iintro HW1
  iapply (step_stage m K 2 rfl (off1_2 c) rfl) $$ HE HK2 HX2 HS2; iintro HW2
  iapply (step_stage m K 3 rfl (off2_0 c) rfl) $$ HE HK3 HX3 HS3; iintro HW3
  iapply run_ret
  iapply Hk
  iframe

/-- The last staging copy starts, and the first four copies of the own columns. -/
theorem part6 {Q : _ → sProp 𝕄} :
    env m K ⊢ iprop((stPre m c 4 ∗ myPre m c 0 ∗ myPre m c 1 ∗ myPre m c 2 ∗ myPre m c 3)
      -∗ ((Wt c (stIx 4) ∗ Wt c (myIx 0) ∗ Wt c (myIx 1) ∗ Wt c (myIx 2) ∗ Wt c (myIx 3)) -∗ Q ⟨⟩)
      -∗ run c (atArgs (k0_part6 (F := F)) c) Q) := by
  simp only [atArgs, k0_part6_eq_skeleton]
  unfold k0_part6_skel stPre myPre
  simp only [Prog.lift, Prog.bind_op, Prog.bind_ret, Prog.pure_eq_ret]
  iintro #HE ⟨⟨HK, HX, %f, HS⟩, ⟨HK0, HX0, %f0, HS0⟩, ⟨HK1, HX1, %f1, HS1⟩, ⟨HK2, HX2, %f2, HS2⟩, HK3, HX3, %f3, HS3⟩ Hk
  iapply (step_stage m K 4 rfl (off2_1 c) rfl) $$ HE HK HX HS; iintro HW
  iapply (step_mine m K 0 rfl (k0_off3_eq c) rfl) $$ HE HK0 HX0 HS0; iintro HW0
  iapply (step_mine m K 1 rfl (k0_off4_eq c) rfl) $$ HE HK1 HX1 HS1; iintro HW1
  iapply (step_mine m K 2 rfl (k0_off5_eq c) rfl) $$ HE HK2 HX2 HS2; iintro HW2
  iapply (step_mine m K 3 rfl (k0_off6_eq c) rfl) $$ HE HK3 HX3 HS3; iintro HW3
  iapply run_ret
  iapply Hk
  iframe

/-- The last own copies, then the units for the partner and the next device. -/
theorem part7 {Q : _ → sProp 𝕄} (v2 v5 v8 v32 v71 v88 : BitVec 32) :
    env m K ⊢ iprop((myPre m c 4 ∗ myPre m c 5 ∗ myPre m c 6 ∗ myPre m c 7)
      -∗ (dutyTok ER (bcell (yp c)) 0 0 ∗ bpay (yp c) 0 ∗ dutyTok ER (bcell (cw c)) 0 1 ∗ bpay (cw c) 1 ∗ Owe c 20)
      -∗ ((Wt c (myIx 4) ∗ Wt c (myIx 5) ∗ Wt c (myIx 6) ∗ Wt c (myIx 7) ∗ Owe c 18) -∗ Q (SemArray.scalar (sig.barrier 0 rfl)))
      -∗ run c (atArgs (k0_part7 (F := F)) c v2 v5 v8 v32 v71 v88) Q) := by
  simp only [atArgs, k0_part7_eq_skeleton]
  unfold k0_part7_skel myPre
  simp only [semSignalWord, Prog.lift, Prog.bind_op, Prog.bind_ret, Prog.pure_eq_ret]
  iintro #HE ⟨⟨HK0, HX0, %f0, HS0⟩, ⟨HK1, HX1, %f1, HS1⟩, ⟨HK2, HX2, %f2, HS2⟩, HK3, HX3, %f3, HS3⟩ ⟨HT0, HP0, HT1, HP1, HO⟩ Hk
  iapply (step_mine m K 4 rfl (k0_off7_eq c) rfl) $$ HE HK0 HX0 HS0; iintro HW0
  iapply (step_mine m K 5 rfl (k0_off8_eq c) rfl) $$ HE HK1 HX1 HS1; iintro HW1
  iapply (step_mine m K 6 rfl (k0_off9_eq c) rfl) $$ HE HK2 HX2 HS2; iintro HW2
  iapply (step_mine m K 7 rfl (k0_off10_eq c) rfl) $$ HE HK3 HX3 HS3; iintro HW3
  iapply (step_signal m K 19 0 (yp c) (dev1_eq c) rfl (by decide) rfl) $$ HE HT0 HP0 HO; iintro HO
  iapply (step_signal m K 18 1 (cw c) (dev2_eq c) rfl (by decide) rfl) $$ HE HT1 HP1 HO; iintro HO
  iapply run_ret
  iapply Hk
  iframe

/-- The unit for the previous device, then the wait for the three neighbours' units. -/
theorem part8 {Q : _ → sProp 𝕄} (v5 v21 v31 v127 v144 : BitVec 32) :
    env m K ⊢ iprop((dutyTok ER (bcell (ccw c)) 0 2 ∗ bpay (ccw c) 2 ∗ Owe c 18 ∗ cred (tallyAt (bcell c) () 3) ∗ atPos ER (bcell c) 0 ∅ 0)
      -∗ (∀ r, (Owe c 17 ∗ atPos ER (bcell c) (0 + 1) ∅ 0 ∗ bpay c 0 ∗ bpay c 1 ∗ bpay c 2) -∗ Q r)
      -∗ run c (atArgs (k0_part8 (F := F)) c v5 v21 v31 v127 v144 (SemArray.scalar (sig.barrier 0 rfl))) Q) := by
  simp only [atArgs, k0_part8_eq_skeleton]
  unfold k0_part8_skel
  simp only [semSignalWord, semWaitWord, Prog.lift, Prog.bind_op, Prog.bind_ret, Prog.pure_eq_ret]
  iintro #HE ⟨HT, HP, HO, HC, HA⟩ Hk
  iapply (step_signal m K 17 2 (ccw c) (dev3_eq c) rfl (by decide) rfl) $$ HE HT HP HO; iintro HO
  iapply (step_bwait m K 17 rfl (by decide) (by decide)) $$ HE [HC HA] HO
  · iframe
  iintro H
  iapply run_ret
  iapply Hk
  iexact H

end Parts

end Cert.Exchange

end
-- ==== Proof.Sends.lean ====
/-
# The blocks for the partner

Each staged block, once it has arrived, is narrowed and sent to the partner; and the parts of the body that only compute.
-/
module

public import proofs.«01_k».proof.Proof.Copies
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The stored values -/

/-- A payload that narrows what is loaded from the stage is the narrowed stage. -/
theorem sb_val (c : Dev nD) {off : Fin 2 → ℕ} {inb : ∀ a, off a + (![256, 1024] : Fin 2 → ℕ) a ≤ S1280x1024.size a}
    (pay : Vec F S256x1024 .f32 → FVec F S256x1024 .bf16) (hp : ∀ v j, pay v j = nrw (v j)) (j : (Rect.unit (s := S1280x1024) off ![256, 1024] inb).shape.Idx) :
    pay (sfM.view.readAt (Elt F) (Rect.unit (s := S1280x1024) off ![256, 1024] inb).toLoadRect (SF m c)) j
      = SB m c ((Rect.unit (s := S1280x1024) off ![256, 1024] inb).emb j) := hp _ j

/-- What is stored for sending, entry by entry: the staged entry narrowed. -/
theorem pay1_eq (v : Vec F S256x1024 .f32) (j : S256x1024.Idx) : k0_pay1 v j = nrw (v j) := by
  unfold k0_pay1; rw [shapeCast_self]; rfl
/-- What is stored for sending, entry by entry: the staged entry narrowed. -/
theorem pay2_eq (v : Vec F S256x1024 .f32) (j : S256x1024.Idx) : k0_pay2 v j = nrw (v j) := by
  unfold k0_pay2; rw [shapeCast_self]; rfl
/-- What is stored for sending, entry by entry: the staged entry narrowed. -/
theorem pay3_eq (v : Vec F S256x1024 .f32) (j : S256x1024.Idx) : k0_pay3 v j = nrw (v j) := by
  unfold k0_pay3; rw [shapeCast_self]; rfl
/-- What is stored for sending, entry by entry: the staged entry narrowed. -/
theorem pay5_eq (v : Vec F S256x1024 .f32) (j : S256x1024.Idx) : k0_pay5 (k0_pay4 v) j = nrw (v j) := by
  unfold k0_pay5; rw [shapeCast_self]; rfl
/-- What is stored for sending, entry by entry: the staged entry narrowed. -/
theorem pay6_eq (v : Vec F S256x1024 .f32) (j : S256x1024.Idx) : k0_pay6 v j = nrw (v j) := by
  unfold k0_pay6; rw [shapeCast_self]; rfl

/-- The fourth staged block, as it is loaded. -/
abbrev stage3 (c : Dev nD) : Vec F S256x1024 .f32 :=
  sfM.view.readAt (Elt F) (Rect.unit (s := S1280x1024) ![768, 0] S256x1024.size inb_S1280x1024_S256x1024_768_0).toLoadRect (SF m c)

/-- After the copy of staged block `j`: its cell, the stage's rows and the share of the argument back. -/
def stDone (c : Dev nD) (j : Fin 5) : sProp 𝕄 := iprop(Dn c (stIx j) ∗ sfR c (256 * j.val) 256 (SF m c) ∗ xT m c j.val)
/-- What the other waits give: a share of a source back, or a block landed. -/
def myDone (c : Dev nD) (k : Fin 8) : sProp 𝕄 := iprop(Dn c (myIx k) ∗ myR c (512 * k.val) 512 (MY m c) ∗ xT m c (5 + k.val))
def ouDone (c : Dev nD) (i : Fin 8) : sProp 𝕄 :=
  iprop(Dn c (ouIx i) ∗ resR c (rlo c i) (rn i) (RES m c) ∗ ovR c (rlo c i) (rn i) (OV m c))

/-- The cells of a device's own copies and of the sources lie lowest. -/
theorem low {i : Fin 55} (h : lvI (.dma (i : DmaSem sig)) = 0) (k : ℕ) : lvI (.dma (i : DmaSem sig)) < dueLv k := by
  rw [h]; unfold dueLv; split_ifs <;> decide
/-- A wait for a staging copy is below every payment, -/
theorem lv_stIx (j : Fin 5) : lvI (.dma (stIx j : DmaSem sig)) = 0 := by fin_cases j <;> rfl
/-- and so is one for a copy of the own columns, -/
theorem lv_myIx (j : Fin 8) : lvI (.dma (myIx j : DmaSem sig)) = 0 := by fin_cases j <;> rfl
/-- one for a copy out, -/
theorem lv_ouIx (j : Fin 8) : lvI (.dma (ouIx j : DmaSem sig)) = 0 := by fin_cases j <;> rfl
/-- and one for a copy having been sent. -/
theorem lv_sIx (l : Fin 17) : lvI (.dma (sIx l : DmaSem sig)) = 0 := by fin_cases l <;> rfl

section Waits

variable {c : Dev nD} {α : Type} {sp sp' : Space} {s s' : Shape} {e e' : EltTy} {src : Memref sig .tc sp' s' e'} {dst : Memref sig .tc sp s e}
  {h1 : src.view.WordExact} {h2 : dst.view.WordExact} {k : PUnit → Prog (TpuEff nD τ sig (Elt F) Λ₀ .tc) α}

/-- A wait whose cell's role is known. -/
theorem wait_role {Q : α → sProp 𝕄} {r : Role} (i : Fin 55) (hr : role i = r) (n : ℕ) {sem : DmaSem sig} (hs : sem = i)
    (hN : dst.view.dmaCredit = amt r) (hl : ∀ k, k < n → lvI (.dma (i : DmaSem sig)) < dueLv k) :
    env m K ⊢ iprop(Wt c i -∗ Owe c n -∗ ((Owe c n ∗ Dn c i ∗ pay m c r) -∗ run c (k ⟨⟩) Q)
      -∗ run c (.op (.waitDma2 sem src dst h1 h2) k) Q) := by
  subst hr
  exact step_wait m K i n hs hN hl

/-- A wait for a staging copy gives the staged rows. -/
theorem wait_stage {Q : α → sProp 𝕄} (j : Fin 5) (n : ℕ) {sem : DmaSem sig} (hs : sem = stIx j)
    (hN : dst.view.dmaCredit = amt (.stage j)) :
    env m K ⊢ iprop(Wt c (stIx j) -∗ Owe c n -∗ ((Owe c n ∗ Dn c (stIx j) ∗ sfR c (256 * j.val) 256 (SF m c) ∗ xT m c j.val) -∗ run c (k ⟨⟩) Q)
      -∗ run c (.op (.waitDma2 sem src dst h1 h2) k) Q) :=
  wait_role m K (stIx j) (role_stIx j) n hs hN fun k _ => low (lv_stIx _) k

/-- A wait for a copy of the own columns gives those rows. -/
theorem wait_mine {Q : α → sProp 𝕄} (j : Fin 8) (n : ℕ) {sem : DmaSem sig} (hs : sem = myIx j)
    (hN : dst.view.dmaCredit = amt (.mine j)) :
    env m K ⊢ iprop(Wt c (myIx j) -∗ Owe c n -∗ ((Owe c n ∗ myDone m c j) -∗ run c (k ⟨⟩) Q)
      -∗ run c (.op (.waitDma2 sem src dst h1 h2) k) Q) :=
  wait_role m K (myIx j) (role_myIx j) n hs hN fun k _ => low (lv_myIx _) k

/-- A wait for a copy out gives the rows of the result. -/
theorem wait_out {Q : α → sProp 𝕄} (i : Fin 8) (n : ℕ) {sem : DmaSem sig} (hs : sem = ouIx i)
    (hN : dst.view.dmaCredit = amt (.out i)) :
    env m K ⊢ iprop(Wt c (ouIx i) -∗ Owe c n -∗ ((Owe c n ∗ ouDone m c i) -∗ run c (k ⟨⟩) Q)
      -∗ run c (.op (.waitDma2 sem src dst h1 h2) k) Q) :=
  wait_role m K (ouIx i) (role_ouIx i) n hs hN fun k _ => low (lv_ouIx _) k

/-- A source cell's wait: the source's share back. -/
theorem wait_send {Q : α → sProp 𝕄} (l : Fin 17) (n : ℕ) {sem : DmaSem sig} (hs : sem = sIx l) (hN : dst.view.dmaCredit = amt (.send l)) :
    env m K ⊢ iprop(Wt c (sIx l) -∗ Owe c n -∗ ((Owe c n ∗ Dn c (sIx l) ∗ pay m c (.send l)) -∗ run c (k ⟨⟩) Q)
      -∗ run c (.op (.waitDma2 sem src dst h1 h2) k) Q) :=
  wait_role m K (sIx l) (role_sIx l) n hs hN fun k _ => low (lv_sIx _) k

/-- A landing cell's wait: the block landed. -/
theorem wait_recv {Q : α → sProp 𝕄} (l : Fin 17) (n : ℕ) {sem : DmaSem sig} (hs : sem = rIx l) (hN : dst.view.dmaCredit = amt (.recv l))
    (hl : ∀ k, k < n → lvI (.dma (rIx l : DmaSem sig)) < dueLv k) :
    env m K ⊢ iprop(Wt c (rIx l) -∗ Owe c n -∗ ((Owe c n ∗ Dn c (rIx l) ∗ dR c fullShare (lo c l) (nn l) (D m c)) -∗ run c (k ⟨⟩) Q)
      -∗ run c (.op (.waitDma2 sem src dst h1 h2) k) Q) :=
  wait_role m K (rIx l) (role_rIx l) n hs hN hl

/-- A program that is a value gives its postcondition. -/
theorem run_pure {Q : α → sProp 𝕄} {p : Prog (TpuEff nD τ sig (Elt F) Λ₀ .tc) α} (h : ∃ a, p = Prog.ret a) :
    iprop(∀ r, Q r) ⊢ run (F := F) c p Q := by
  obtain ⟨a, rfl⟩ := h
  iintro H
  iapply run_ret
  iapply H

end Waits

/-- The rows for the narrowed block `j`, at whatever they hold. -/
def sbPre (c : Dev nD) (j : Fin 5) : sProp 𝕄 := iprop(∃ f, sbR (F := F) c (256 * j.val) 256 f)

section Parts

variable (c : Dev nD)

/-- The first staged block arrives and is narrowed. -/
theorem part14 {Q : _ → sProp 𝕄} (v2 v375 v441 v442 : BitVec 32) (v447 : BitVec 1) :
    env m K ⊢ iprop((Wt c (stIx 0) ∗ Owe c 17 ∗ sbPre c 0) -∗ (∀ r, (Owe c 17 ∗ stDone m c 0 ∗ sbR c 0 256 (SB m c)) -∗ Q r)
      -∗ run c (atArgs (k0_part14 (F := F)) c v2 v375 v441 v442 v447) Q) := by
  simp only [atArgs, k0_part14_eq_skeleton]
  unfold k0_part14_skel stDone sbPre
  simp only [Prog.lift, Prog.bind_op, Prog.bind_ret, Prog.pure_eq_ret]
  iintro #HE ⟨HW, HO, %f, HB⟩ Hk
  iapply (wait_stage m K 0 17 rfl rfl) $$ HE HW HO
  iintro ⟨HO, HD, HS, HX⟩
  iapply (ld_sf rfl) $$ HS; iintro HS
  iapply (ld_sb rfl) $$ HB; iintro HB
  iapply (st_sb m rfl (sb_val m c k0_pay1 pay1_eq)) $$ HB; iintro HB
  iapply run_ret
  iapply Hk
  iframe

/-- Block 0 is sent; the next staged block arrives, is narrowed and sent as block 1. -/
theorem part15 {Q : _ → sProp 𝕄} (v2 v8 v32 v480 : BitVec 32) :
    env m K ⊢ iprop((sbR c 0 256 (SB m c) ∗ KitS c 0 ∗ land c 0 ∗ Owe c 17) -∗ (Wt c (stIx 1) ∗ sbPre c 1 ∗ KitS c 1 ∗ land c 1)
      -∗ ((Owe c 15 ∗ Wt c (sIx 0) ∗ stDone m c 1 ∗ Wt c (sIx 1)) -∗ Q ⟨⟩)
      -∗ run c (atArgs (k0_part15 (F := F)) c v2 v8 v32 v480) Q) := by
  simp only [atArgs, k0_part15_eq_skeleton]
  unfold k0_part15_skel stDone sbPre
  simp only [Prog.lift, Prog.bind_op, Prog.bind_ret, Prog.pure_eq_ret]
  iintro #HE ⟨HB, HK, HL, HO⟩ ⟨HW, ⟨%f, HB1⟩, HK1, HL1⟩ Hk
  iapply (step_y m K 0 (by decide) 16 (by decide) rfl (dev4_eq c) rfl rfl rfl (off11_0 c)) $$ HE HK HB HL HO
  iintro ⟨HW0, HO⟩
  iapply (wait_stage m K 1 16 rfl rfl) $$ HE HW HO
  iintro ⟨HO, HD, HS, HX⟩
  iapply (ld_sf rfl) $$ HS; iintro HS
  iapply (ld_sb rfl) $$ HB1; iintro HB
  iapply (st_sb m rfl (sb_val m c k0_pay2 pay2_eq)) $$ HB; iintro HB
  iapply (step_y m K 1 (by decide) 15 (by decide) rfl (dev5_eq c) rfl rfl rfl (off11_1 c)) $$ HE HK1 HB HL1 HO
  iintro ⟨HW1, HO⟩
  iapply run_ret
  iapply Hk
  iframe

/-- The third staged block arrives, is narrowed and sent as block 2; the fourth arrives. -/
theorem part16 {Q : _ → sProp 𝕄} (v2 v8 v32 : BitVec 32) :
    env m K ⊢ iprop((Wt c (stIx 2) ∗ sbPre c 2 ∗ KitS c 2 ∗ land c 2 ∗ Owe c 15) -∗ (Wt c (stIx 3) ∗ sbPre c 3)
      -∗ ((Owe c 14 ∗ stDone m c 2 ∗ Wt c (sIx 2) ∗ stDone m c 3 ∗ sbPre c 3) -∗ Q (k0_pay4 (stage3 m c)))
      -∗ run c (atArgs (k0_part16 (F := F)) c v2 v8 v32) Q) := by
  simp only [atArgs, k0_part16_eq_skeleton]
  unfold k0_part16_skel stDone sbPre
  simp only [Prog.lift, Prog.bind_op, Prog.bind_ret, Prog.pure_eq_ret]
  iintro #HE ⟨HW, ⟨%f, HB⟩, HK, HL, HO⟩ ⟨HW1, %f1, HB1⟩ Hk
  iapply (wait_stage m K 2 15 rfl rfl) $$ HE HW HO
  iintro ⟨HO, HD, HS, HX⟩
  iapply (ld_sf rfl) $$ HS; iintro HS
  iapply (ld_sb rfl) $$ HB; iintro HB
  iapply (st_sb m rfl (sb_val m c k0_pay3 pay3_eq)) $$ HB; iintro HB
  iapply (step_y m K 2 (by decide) 14 (by decide) rfl (dev6_eq c) rfl rfl rfl (off11_2 c)) $$ HE HK HB HL HO
  iintro ⟨HW0, HO⟩
  iapply (wait_stage m K 3 14 rfl rfl) $$ HE HW1 HO
  iintro ⟨HO, HD1, HS1, HX1⟩
  iapply (ld_sf rfl) $$ HS1; iintro HS1
  iapply (ld_sb rfl) $$ HB1; iintro HB1
  iapply run_ret
  iapply Hk
  iframe
  iexists f1; iexact HB1

/-- The fourth is narrowed and sent as block 3; the last staged block arrives and is narrowed. -/
theorem part17 {Q : _ → sProp 𝕄} (v2 v8 v32 : BitVec 32) :
    env m K ⊢ iprop((sbPre c 3 ∗ KitS c 3 ∗ land c 3 ∗ Owe c 14) -∗ (Wt c (stIx 4) ∗ sbPre c 4)
      -∗ ((Owe c 13 ∗ Wt c (sIx 3) ∗ stDone m c 4 ∗ sbR c 1024 256 (SB m c)) -∗ Q ⟨⟩)
      -∗ run c (atArgs (k0_part17 (F := F)) c v2 v8 v32 (k0_pay4 (stage3 m c))) Q) := by
  simp only [atArgs, k0_part17_eq_skeleton]
  unfold k0_part17_skel stDone sbPre
  simp only [Prog.lift, Prog.bind_op, Prog.bind_ret, Prog.pure_eq_ret]
  iintro #HE ⟨⟨%f, HB⟩, HK, HL, HO⟩ ⟨HW1, %f1, HB1⟩ Hk
  iapply (st_sb m rfl (sb_val m c (fun v => k0_pay5 (k0_pay4 v)) pay5_eq)) $$ HB; iintro HB
  iapply (step_y m K 3 (by decide) 13 (by decide) rfl (dev7_eq c) rfl rfl rfl (off12_0 c)) $$ HE HK HB HL HO
  iintro ⟨HW0, HO⟩
  iapply (wait_stage m K 4 13 rfl rfl) $$ HE HW1 HO
  iintro ⟨HO, HD1, HS1, HX1⟩
  iapply (ld_sf rfl) $$ HS1; iintro HS1
  iapply (ld_sb rfl) $$ HB1; iintro HB1
  iapply (st_sb m rfl (sb_val m c k0_pay6 pay6_eq)) $$ HB1; iintro HB1
  iapply run_ret
  iapply Hk
  iframe

/-! ## Parts that only compute -/

/-- The first part learns the device and returns it first. -/
theorem part1 {Q : _ → sProp 𝕄} : env m K ⊢ iprop((∀ r, ⌜r.1 = c⌝ -∗ Q r) -∗ run c (atArgs (k0_part1 (F := F))) Q) := by
  simp only [atArgs, k0_part1_eq_skeleton]
  unfold k0_part1_skel
  simp only [Prog.lift, Prog.bind_op, Prog.bind_ret, Prog.pure_eq_ret, wp_deviceId]
  iintro #HE Hk
  iapply run_ret
  iapply Hk
  ipureintro; rfl

/-- A part that only computes returns at once. -/
theorem part2 (a b : BitVec 32) (d : BitVec 1) (e : BitVec 32) : ∃ r, atArgs (k0_part2 (F := F)) a b d e = Prog.ret r := ⟨_, rfl⟩
/-- A part that only computes returns at once. -/
theorem part3 (a b d e f : BitVec 32) (g : BitVec 1) : ∃ r, atArgs (k0_part3 (F := F)) a b d e f g = Prog.ret r := ⟨_, rfl⟩
/-- A part that only computes returns at once. -/
theorem part9 (a b d : BitVec 32) (e : BitVec 1) : ∃ r, atArgs (k0_part9 (F := F)) a b d e = Prog.ret r := ⟨_, rfl⟩
/-- A part that only computes returns at once. -/
theorem part10 (a b d e : BitVec 32) (f g h : BitVec 1) : ∃ r, atArgs (k0_part10 (F := F)) a b d e f g h = Prog.ret r := ⟨_, rfl⟩
/-- A part that only computes returns at once. -/
theorem part11 (a b d e : BitVec 32) (f g : BitVec 1) : ∃ r, atArgs (k0_part11 (F := F)) a b d e f g = Prog.ret r := ⟨_, rfl⟩
/-- A part that only computes returns at once. -/
theorem part12 (a b d : BitVec 32) : ∃ r, atArgs (k0_part12 (F := F)) a b d = Prog.ret r := ⟨_, rfl⟩
/-- A part that only computes returns at once. -/
theorem part13 (a b d : BitVec 32) : ∃ r, atArgs (k0_part13 (F := F)) a b d = Prog.ret r := ⟨_, rfl⟩

end Parts

end Cert.Exchange

end
-- ==== Proof.Blocks.lean ====
/-
# Buffers cut into blocks

A buffer whole is its blocks of rows; a landed block is the half kept for the additions and what is lent to the sends of
it, with what is left over.
-/
module

public import proofs.«01_k».proof.Proof.Sends

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole buffers -/

section Cut

variable {N R : ℕ} {lo n : Fin N → ℕ}

/-- Blocks that end before one another begin are disjoint, -/
theorem cut_disjoint (hd : ∀ i j, i ≠ j → lo i + n i ≤ lo j ∨ lo j + n j ≤ lo i) :
    ∀ i ∈ (Finset.univ : Finset (Fin N)), ∀ j ∈ (Finset.univ : Finset (Fin N)), i ≠ j →
      Disjoint (rows (lo i) (n i) : Finset (⟨2, ![R, 1024]⟩ : Shape).Idx) (rows (lo j) (n j)) :=
  fun i _ j _ h => rows_disjoint (hd i j h)

/-- and blocks that hold every run of 128 rows are the whole. -/
theorem cut_univ (B : ℕ) (hR : R ≤ 128 * B) (hc : ∀ q : Fin B, ∃ i, lo i ≤ 128 * q.val ∧ 128 * q.val + 128 ≤ lo i + n i) :
    (Finset.univ : Finset (⟨2, ![R, 1024]⟩ : Shape).Idx) = Finset.univ.biUnion fun i => rows (lo i) (n i) := by
  ext x
  have hx : (x 0).val < R := (x 0).isLt
  obtain ⟨i, h1, h2⟩ := hc ⟨(x 0).val / 128, by omega⟩
  simp only at h1 h2
  refine ⟨fun _ => Finset.mem_biUnion.mpr ⟨i, Finset.mem_univ _, ?_⟩, fun _ => Finset.mem_univ _⟩
  rw [mem_rows]; omega

end Cut

/-- At every position, two different landing blocks share no row. -/
theorem lo_disj : ∀ (p : Fin 4) (i j : Fin 17), i ≠ j → loP p i + nn i ≤ loP p j ∨ loP p j + nn j ≤ loP p i := by decide +kernel
/-- At every position, each stretch of 128 rows of the landing buffer lies in one of the seventeen blocks. -/
theorem lo_cover : ∀ (p : Fin 4) (q : Fin 32), ∃ i : Fin 17, loP p i ≤ 128 * q.val ∧ 128 * q.val + 128 ≤ loP p i + nn i := by decide +kernel
/-- Two different regions of the result share no row. -/
theorem rlo_disj : ∀ (c : Dev nD) (i j : Fin 8), i ≠ j → rlo c i + rn i ≤ rlo c j ∨ rlo c j + rn j ≤ rlo c i := by decide +kernel
/-- Each stretch of 128 rows of the result lies in one of the eight regions. -/
theorem rlo_cover : ∀ (c : Dev nD) (q : Fin 32), ∃ i : Fin 8, rlo c i ≤ 128 * q.val ∧ 128 * q.val + 128 ≤ rlo c i + rn i := by decide +kernel
/-- Two different blocks of 256 staged rows share no row. -/
theorem st_disj : ∀ i j : Fin 5, i ≠ j → 256 * i.val + 256 ≤ 256 * j.val ∨ 256 * j.val + 256 ≤ 256 * i.val := by decide
/-- Each stretch of 128 staged rows lies in one of the five blocks. -/
theorem st_cover : ∀ q : Fin 10, ∃ i : Fin 5, 256 * i.val ≤ 128 * q.val ∧ 128 * q.val + 128 ≤ 256 * i.val + 256 := by decide
/-- Two different blocks of 512 rows of the own columns share no row. -/
theorem my_disj : ∀ i j : Fin 8, i ≠ j → 512 * i.val + 512 ≤ 512 * j.val ∨ 512 * j.val + 512 ≤ 512 * i.val := by decide
/-- Each stretch of 128 rows of the own columns lies in one of the eight blocks. -/
theorem my_cover : ∀ q : Fin 32, ∃ i : Fin 8, 512 * i.val ≤ 128 * q.val ∧ 128 * q.val + 128 ≤ 512 * i.val + 512 := by decide

section Whole

variable (c : Dev nD)

/-- Each buffer whole is its blocks. -/
theorem d_cut (f : Buf (Elt F) ((c : Thread nD τ).loc cc0_scratch0)) :
    (((c : Thread nD τ).loc cc0_scratch0 ↦{fullShare} f) : sProp 𝕄) = bigSep Finset.univ fun l : Fin 17 => dR c fullShare (lo c l) (nn l) f := by
  rw [← pointsTo_biUnion _ _ (cut_disjoint (lo_disj ⟨pos c, pos_lt c⟩))]
  exact congrArg (fun S => (c : Thread nD τ).loc cc0_scratch0 ↦[S]{fullShare} f) (cut_univ 32 (by decide) (lo_cover ⟨pos c, pos_lt c⟩))
/-- The f32 staging buffer is its five blocks. -/
theorem sf_cut (f : Buf (Elt F) ((c : Thread nD τ).loc cc0_scratch1)) :
    (((c : Thread nD τ).loc cc0_scratch1 ↦{fullShare} f) : sProp 𝕄) = bigSep Finset.univ fun j : Fin 5 => sfR c (256 * j.val) 256 f := by
  rw [← pointsTo_biUnion _ _ (cut_disjoint st_disj)]
  exact congrArg (fun S => (c : Thread nD τ).loc cc0_scratch1 ↦[S]{fullShare} f) (cut_univ 10 (by decide) st_cover)
/-- The bf16 staging buffer is its five blocks. -/
theorem sb_cut (f : Buf (Elt F) ((c : Thread nD τ).loc cc0_scratch2)) :
    (((c : Thread nD τ).loc cc0_scratch2 ↦{fullShare} f) : sProp 𝕄) = bigSep Finset.univ fun j : Fin 5 => sbR c (256 * j.val) 256 f := by
  rw [← pointsTo_biUnion _ _ (cut_disjoint st_disj)]
  exact congrArg (fun S => (c : Thread nD τ).loc cc0_scratch2 ↦[S]{fullShare} f) (cut_univ 10 (by decide) st_cover)
/-- The buffer of the own columns is its eight blocks. -/
theorem my_cut (f : Buf (Elt F) ((c : Thread nD τ).loc cc0_scratch3)) :
    (((c : Thread nD τ).loc cc0_scratch3 ↦{fullShare} f) : sProp 𝕄) = bigSep Finset.univ fun k : Fin 8 => myR c (512 * k.val) 512 f := by
  rw [← pointsTo_biUnion _ _ (cut_disjoint my_disj)]
  exact congrArg (fun S => (c : Thread nD τ).loc cc0_scratch3 ↦[S]{fullShare} f) (cut_univ 32 (by decide) my_cover)
/-- The buffer of the sums is its eight regions. -/
theorem ov_cut (f : Buf (Elt F) ((c : Thread nD τ).loc cc0_scratch4)) :
    (((c : Thread nD τ).loc cc0_scratch4 ↦{fullShare} f) : sProp 𝕄) = bigSep Finset.univ fun i : Fin 8 => ovR c (rlo c i) (rn i) f := by
  rw [← pointsTo_biUnion _ _ (cut_disjoint (rlo_disj c))]
  exact congrArg (fun S => (c : Thread nD τ).loc cc0_scratch4 ↦[S]{fullShare} f) (cut_univ 32 (by decide) (rlo_cover c))
/-- The result is its eight regions. -/
theorem res_cut (f : Buf (Elt F) ((c : Thread nD τ).loc main_v1)) :
    (((c : Thread nD τ).loc main_v1 ↦{fullShare} f) : sProp 𝕄) = bigSep Finset.univ fun i : Fin 8 => resR c (rlo c i) (rn i) f := by
  rw [← pointsTo_biUnion _ _ (cut_disjoint (rlo_disj c))]
  exact congrArg (fun S => (c : Thread nD τ).loc main_v1 ↦[S]{fullShare} f) (cut_univ 32 (by decide) (rlo_cover c))

end Whole

/-! ## A landed block, shared -/

/-- The half of a landed block kept for the additions; the share of it lent to the send of block `l`. -/
def Kp (c : Dev nD) (l : Fin 17) : sProp 𝕄 := dR c qK (lo c l) (nn l) (D m c)
def Src (c : Dev nD) (l : Fin 17) : sProp 𝕄 := dR c (qS l) (lo (dest c l) l) (nn l) (D m c)
/-- The rows of the landing buffer nobody is lent. -/
def Sp (c : Dev nD) (a n : ℕ) : sProp 𝕄 := dR c qR a n (D m c)

section Share

variable (c : Dev nD) {q : PosShare TreeShare} {a n k : ℕ} {f : Buf (Elt F) ((c : Thread nD τ).loc cc0_scratch0)}

/-- Landing rows held at a share are the same rows held at its two halves. -/
theorem d_halves : (dR c q a n f : sProp 𝕄) ⊣⊢ iprop(dR c q.left a n f ∗ dR c q.right a n f) := pointsTo_share (PosShare.mem_left_op_right q)

/-- Landing rows `a … a + n + k` are rows `a … a + n` and the `k` rows after them. -/
theorem d_append : (dR c q a (n + k) f : sProp 𝕄) ⊣⊢ iprop(dR c q a n f ∗ dR c q (a + n) k f) := by
  have h := pointsTo_union (ℓ := (c : Thread nD τ).loc cc0_scratch0) (q := q) (f := f) (Val := Elt F) (U := UU) (Ix := Unit) (Name := ℕ) (Lvl := ℕ)
    (I := (rows a n : Finset S4096x1024.Idx)) (J := rows (a + n) k) (rows_disjoint (Or.inl (le_refl _)))
  rw [← rows_append] at h
  exact h

end Share

/-- A block that is passed on keeps its rows: where each relayed block lies on the device it goes to, in terms of the blocks that landed here. -/
theorem src_lo : ∀ c : Dev nD, lo (dest c 5) 5 = lo c 0 ∧ lo (dest c 6) 6 = lo c 1 ∧ lo (dest c 7) 7 = lo c 2
    ∧ lo (dest c 11) 11 = lo c 0 ∧ lo (dest c 12) 12 = lo c 1 ∧ lo (dest c 13) 13 = lo c 2
    ∧ lo (dest c 8) 8 = lo c 5 ∧ lo (dest c 9) 9 = lo c 6 ∧ lo (dest c 14) 14 = lo c 12 + 128 ∧ lo (dest c 15) 15 = lo c 13
    ∧ lo (dest c 10) 10 = lo c 3 ∧ lo (dest c 16) 16 = lo c 4 := by decide +kernel

/-- A landed block, whole. -/
abbrev Blk (c : Dev nD) (l : Fin 17) : sProp 𝕄 := dR c fullShare (lo c l) (nn l) (D m c)

section Fork

variable (c : Dev nD)

/-- A landed block nobody relays. -/
theorem leftover (l : Fin 17) : (Blk m c l : sProp 𝕄) ⊣⊢ iprop(Kp m c l ∗ Sp m c (lo c l) (nn l)) :=
  d_halves c

/-- A landed block relayed once, as block `l'`. -/
theorem relayed (l l' : Fin 17) (h : lo (dest c l') l' = lo c l) (hn : nn l' = nn l) (hq : qS l' = qR) :
    (Blk m c l : sProp 𝕄) ⊣⊢ iprop(Kp m c l ∗ Src m c l') := by
  unfold Blk Kp Src; rw [h, hn, hq]; exact d_halves c

/-- A landed block relayed both ways, as blocks `l₁` and `l₂`. -/
theorem both (l l₁ l₂ : Fin 17) (h₁ : lo (dest c l₁) l₁ = lo c l) (h₂ : lo (dest c l₂) l₂ = lo c l) (hn₁ : nn l₁ = nn l) (hn₂ : nn l₂ = nn l)
    (hq₁ : qS l₁ = fullShare.right.left) (hq₂ : qS l₂ = fullShare.right.right) :
    (Blk m c l : sProp 𝕄) ⊣⊢ iprop(Kp m c l ∗ Src m c l₁ ∗ Src m c l₂) := by
  unfold Blk Kp Src; rw [h₁, h₂, hn₁, hn₂, hq₁, hq₂]
  constructor
  · iintro H
    ihave H := (d_halves c).1 $$ H
    icases H with ⟨H, H'⟩
    ihave H' := (d_halves c).1 $$ H'
    iframe
  · iintro ⟨H, H'⟩
    ihave H' := (d_halves c).2 $$ H'
    iapply (d_halves c).2
    iframe

/-- A landed block of which the first or the last 128 rows are relayed, as block `l'`. -/
theorem first_half (l l' : Fin 17) (h : lo (dest c l') l' = lo c l) (hn : nn l' = 128) (hl : nn l = 128 + 128) (hq : qS l' = qR) :
    (Blk m c l : sProp 𝕄) ⊣⊢ iprop(Kp m c l ∗ Src m c l' ∗ Sp m c (lo c l + 128) 128) := by
  unfold Blk Kp Src Sp; rw [h, hn, hq, hl]
  constructor
  · iintro H
    ihave H := (d_halves c).1 $$ H
    icases H with ⟨H, H'⟩
    ihave H' := (d_append c).1 $$ H'
    iframe
  · iintro ⟨H, H'⟩
    ihave H' := (d_append c).2 $$ H'
    iapply (d_halves c).2
    iframe
/-- A landed block of which the last 128 rows are passed on: what is kept to read, the first 128 rows, and the source of the copy. -/
theorem last_half (l l' : Fin 17) (h : lo (dest c l') l' = lo c l + 128) (hn : nn l' = 128) (hl : nn l = 128 + 128) (hq : qS l' = qR) :
    (Blk m c l : sProp 𝕄) ⊣⊢ iprop(Kp m c l ∗ Sp m c (lo c l) 128 ∗ Src m c l') := by
  unfold Blk Kp Src Sp; rw [h, hn, hq, hl]
  constructor
  · iintro H
    ihave H := (d_halves c).1 $$ H
    icases H with ⟨H, H'⟩
    ihave H' := (d_append c).1 $$ H'
    iframe
  · iintro ⟨H, H'⟩
    ihave H' := (d_append c).2 $$ H'
    iapply (d_halves c).2
    iframe

/-! The forks of this exchange. -/

/-- Block 0 is passed on both ways, as blocks 5 and 11. -/
theorem fork0 : (Blk m c 0 : sProp 𝕄) ⊣⊢ iprop(Kp m c 0 ∗ Src m c 5 ∗ Src m c 11) := both m c 0 5 11 (src_lo c).1 (src_lo c).2.2.2.1 rfl rfl rfl rfl
/-- Block 1 is passed on both ways, as blocks 6 and 12. -/
theorem fork1 : (Blk m c 1 : sProp 𝕄) ⊣⊢ iprop(Kp m c 1 ∗ Src m c 6 ∗ Src m c 12) := both m c 1 6 12 (src_lo c).2.1 (src_lo c).2.2.2.2.1 rfl rfl rfl rfl
/-- Block 2 is passed on both ways, as blocks 7 and 13. -/
theorem fork2 : (Blk m c 2 : sProp 𝕄) ⊣⊢ iprop(Kp m c 2 ∗ Src m c 7 ∗ Src m c 13) := both m c 2 7 13 (src_lo c).2.2.1 (src_lo c).2.2.2.2.2.1 rfl rfl rfl rfl
/-- Block 5 is passed on as block 8. -/
theorem fork5 : (Blk m c 5 : sProp 𝕄) ⊣⊢ iprop(Kp m c 5 ∗ Src m c 8) := relayed m c 5 8 (src_lo c).2.2.2.2.2.2.1 rfl rfl
/-- The first half of block 6 is passed on as block 9. -/
theorem fork6 : (Blk m c 6 : sProp 𝕄) ⊣⊢ iprop(Kp m c 6 ∗ Src m c 9 ∗ Sp m c (lo c 6 + 128) 128) := first_half m c 6 9 (src_lo c).2.2.2.2.2.2.2.1 rfl rfl rfl
/-- The last half of block 12 is passed on as block 14. -/
theorem fork12 : (Blk m c 12 : sProp 𝕄) ⊣⊢ iprop(Kp m c 12 ∗ Sp m c (lo c 12) 128 ∗ Src m c 14) := last_half m c 12 14 (src_lo c).2.2.2.2.2.2.2.2.1 rfl rfl rfl
/-- Block 13 is passed on as block 15. -/
theorem fork13 : (Blk m c 13 : sProp 𝕄) ⊣⊢ iprop(Kp m c 13 ∗ Src m c 15) := relayed m c 13 15 (src_lo c).2.2.2.2.2.2.2.2.2.1 rfl rfl
/-- Block 3 is passed on as block 10. -/
theorem fork3 : (Blk m c 3 : sProp 𝕄) ⊣⊢ iprop(Kp m c 3 ∗ Src m c 10) := relayed m c 3 10 (src_lo c).2.2.2.2.2.2.2.2.2.2.1 rfl rfl
/-- Block 4 is passed on as block 16. -/
theorem fork4 : (Blk m c 4 : sProp 𝕄) ⊣⊢ iprop(Kp m c 4 ∗ Src m c 16) := relayed m c 4 16 (src_lo c).2.2.2.2.2.2.2.2.2.2.2 rfl rfl

end Fork

/-! ## The rows of one addition -/

/-- The kept half of the landing buffer on the rows of addition `i`. -/
def RegD (c : Dev nD) (i : Fin 8) : sProp 𝕄 := dR c qK (rlo c i) (rn i) (D m c)

/-- Where each landed block lies in its region. -/
theorem reg_lo : ∀ c : Dev nD, (lo c 0 = rlo c 0 ∧ lo c 1 = rlo c 0 + 256 ∧ lo c 2 = rlo c 0 + 256 + 256)
    ∧ (lo c 3 = rlo c 1 ∧ lo c 4 = rlo c 1 + 256) ∧ (lo c 5 = rlo c 2 ∧ lo c 6 = rlo c 2 + 256 ∧ lo c 7 = rlo c 2 + 256 + 256)
    ∧ (lo c 11 = rlo c 3 ∧ lo c 12 = rlo c 3 + 256 ∧ lo c 13 = rlo c 3 + 256 + 256)
    ∧ (lo c 8 = rlo c 4 ∧ lo c 9 = rlo c 4 + 256) ∧ (lo c 14 = rlo c 5 ∧ lo c 15 = rlo c 5 + 128)
    ∧ lo c 10 = rlo c 6 ∧ lo c 16 = rlo c 7 := by decide +kernel

section Regions

variable (c : Dev nD)

/-- A region made of two consecutive blocks is held by holding both. -/
theorem two_blocks (i : Fin 8) (l₁ l₂ : Fin 17) (h : rn i = nn l₁ + nn l₂) (h₁ : lo c l₁ = rlo c i) (h₂ : lo c l₂ = rlo c i + nn l₁) :
    (RegD m c i : sProp 𝕄) ⊣⊢ iprop(Kp m c l₁ ∗ Kp m c l₂) := by
  unfold RegD Kp; rw [h, h₁, h₂]; exact d_append c

/-- A region made of three consecutive blocks is held by holding all three. -/
theorem three_blocks (i : Fin 8) (l₁ l₂ l₃ : Fin 17) (h : rn i = nn l₁ + (nn l₂ + nn l₃)) (h₁ : lo c l₁ = rlo c i) (h₂ : lo c l₂ = rlo c i + nn l₁)
    (h₃ : lo c l₃ = rlo c i + nn l₁ + nn l₂) : (RegD m c i : sProp 𝕄) ⊣⊢ iprop(Kp m c l₁ ∗ Kp m c l₂ ∗ Kp m c l₃) := by
  unfold RegD Kp; rw [h, h₁, h₂, h₃]
  constructor
  · iintro H
    ihave H := (d_append c).1 $$ H
    icases H with ⟨H, H'⟩
    ihave H' := (d_append c).1 $$ H'
    iframe
  · iintro ⟨H, H'⟩
    ihave H' := (d_append c).2 $$ H'
    iapply (d_append c).2
    iframe

/-- Region 0 is blocks 0, 1 and 2. -/
theorem reg0 : (RegD m c 0 : sProp 𝕄) ⊣⊢ iprop(Kp m c 0 ∗ Kp m c 1 ∗ Kp m c 2) := three_blocks m c 0 0 1 2 rfl (reg_lo c).1.1 (reg_lo c).1.2.1 (reg_lo c).1.2.2
/-- Region 1 is blocks 3 and 4. -/
theorem reg1 : (RegD m c 1 : sProp 𝕄) ⊣⊢ iprop(Kp m c 3 ∗ Kp m c 4) := two_blocks m c 1 3 4 rfl (reg_lo c).2.1.1 (reg_lo c).2.1.2
/-- Region 2 is blocks 5, 6 and 7. -/
theorem reg2 : (RegD m c 2 : sProp 𝕄) ⊣⊢ iprop(Kp m c 5 ∗ Kp m c 6 ∗ Kp m c 7) := three_blocks m c 2 5 6 7 rfl (reg_lo c).2.2.1.1 (reg_lo c).2.2.1.2.1 (reg_lo c).2.2.1.2.2
/-- Region 3 is blocks 11, 12 and 13. -/
theorem reg3 : (RegD m c 3 : sProp 𝕄) ⊣⊢ iprop(Kp m c 11 ∗ Kp m c 12 ∗ Kp m c 13) := three_blocks m c 3 11 12 13 rfl (reg_lo c).2.2.2.1.1 (reg_lo c).2.2.2.1.2.1 (reg_lo c).2.2.2.1.2.2
/-- Region 4 is blocks 8 and 9. -/
theorem reg4 : (RegD m c 4 : sProp 𝕄) ⊣⊢ iprop(Kp m c 8 ∗ Kp m c 9) := two_blocks m c 4 8 9 rfl (reg_lo c).2.2.2.2.1.1 (reg_lo c).2.2.2.2.1.2
/-- Region 5 is blocks 14 and 15. -/
theorem reg5 : (RegD m c 5 : sProp 𝕄) ⊣⊢ iprop(Kp m c 14 ∗ Kp m c 15) := two_blocks m c 5 14 15 rfl (reg_lo c).2.2.2.2.2.1.1 (reg_lo c).2.2.2.2.2.1.2
/-- Region 6 is block 10. -/
theorem reg6 : (RegD m c 6 : sProp 𝕄) = Kp m c 10 := by
  unfold RegD Kp; rw [(reg_lo c).2.2.2.2.2.2.1]; rfl
/-- Region 7 is block 16. -/
theorem reg7 : (RegD m c 7 : sProp 𝕄) = Kp m c 16 := by
  unfold RegD Kp; rw [(reg_lo c).2.2.2.2.2.2.2]; rfl

end Regions

end Cert.Exchange

end
-- ==== Proof.Relays.lean ====
/-
# The relayed blocks

Each block that arrives is passed on: the partner's first three blocks both ways round the ring, then what the previous
and the next device sent, then the partner's last two.
-/
module

public import proofs.«01_k».proof.Proof.Blocks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-- An offset's row named otherwise. -/
theorem row_eq {off : Fin 2 → ℕ} {a b : ℕ} (h : off = ![a, 0]) (e : b = a) : off = ![b, 0] := e ▸ h

/-- What a landing cell's owner has after its wait. -/
def Got (c : Dev nD) (l : Fin 17) : sProp 𝕄 := iprop(Dn c (rIx l) ∗ Kp m c l)

section Parts

variable (c : Dev nD)

/-- Block 4 is sent to the partner; the partner's block 0 arrives and is passed on to the next device as block 5. -/
theorem part18 {Q : _ → sProp 𝕄} (v2 v5 v8 v32 v71 v88 v127 v144 : BitVec 32) :
    env m K ⊢ iprop((KitS c 4 ∗ sbR c 1024 256 (SB m c) ∗ land c 4 ∗ Owe c 13) -∗ (Wt c (rIx 0) ∗ KitS c 5 ∗ land c 5)
      -∗ ((Owe c 11 ∗ Wt c (sIx 4) ∗ Got m c 0 ∗ Wt c (sIx 5) ∗ Src m c 11) -∗ Q ⟨⟩)
      -∗ run c (atArgs (k0_part18 (F := F)) c v2 v5 v8 v32 v71 v88 v127 v144) Q) := by
  simp only [atArgs, k0_part18_eq_skeleton]
  unfold k0_part18_skel Got
  simp only [Prog.lift, Prog.bind_op, Prog.bind_ret, Prog.pure_eq_ret]
  iintro #HE ⟨HK, HB, HL, HO⟩ ⟨HW, HK1, HL1⟩ Hk
  iapply (step_y m K 4 (by decide) 12 (by decide) rfl (dev8_eq c) rfl rfl rfl (off12_1 c)) $$ HE HK HB HL HO
  iintro ⟨HW0, HO⟩
  iapply (wait_recv m K 0 12 rfl rfl (by decide)) $$ HE HW HO
  iintro ⟨HO, HD, HB⟩
  ihave HB := (fork0 m c).1 $$ HB
  icases HB with ⟨HB, HS, HS'⟩
  unfold Src
  iapply (step_relay m K 5 (by decide) 11 (by decide) rfl (dev9_eq c) rfl rfl rfl (row_eq (off11_0 c) (src_lo c).1)) $$ HE HK1 HS HL1 HO
  iintro ⟨HW1, HO⟩
  iapply run_ret
  iapply Hk
  iframe

/-- Block 11 is sent; the partner's block 1 arrives and is passed on to the next device as block 6. -/
theorem part19 {Q : _ → sProp 𝕄} (v2 v5 v8 v32 v71 v88 v127 v144 : BitVec 32) :
    env m K ⊢ iprop((KitS c 11 ∗ Src m c 11 ∗ land c 11 ∗ Owe c 11) -∗ (Wt c (rIx 1) ∗ KitS c 6 ∗ land c 6)
      -∗ (∀ r, (Owe c 9 ∗ Wt c (sIx 11) ∗ Got m c 1 ∗ Wt c (sIx 6) ∗ Src m c 12) -∗ Q r)
      -∗ run c (atArgs (k0_part19 (F := F)) c v2 v5 v8 v32 v71 v88 v127 v144) Q) := by
  simp only [atArgs, k0_part19_eq_skeleton]
  unfold k0_part19_skel Got
  simp only [Prog.lift, Prog.bind_op, Prog.bind_ret, Prog.pure_eq_ret]
  iintro #HE ⟨HK, HS, HL, HO⟩ ⟨HW, HK1, HL1⟩ Hk
  unfold Src
  iapply (step_relay m K 11 (by decide) 10 (by decide) rfl (dev10_eq c) rfl rfl rfl (row_eq (off11_0 c) (src_lo c).2.2.2.1)) $$ HE HK HS HL HO
  iintro ⟨HW0, HO⟩
  iapply (wait_recv m K 1 10 rfl rfl (by decide)) $$ HE HW HO
  iintro ⟨HO, HD, HB⟩
  ihave HB := (fork1 m c).1 $$ HB
  icases HB with ⟨HB, HS, HS'⟩
  unfold Src
  iapply (step_relay m K 6 (by decide) 9 (by decide) rfl (dev11_eq c) rfl rfl rfl (row_eq (off11_1 c) (src_lo c).2.1)) $$ HE HK1 HS HL1 HO
  iintro ⟨HW1, HO⟩
  iapply run_ret
  iapply Hk
  iframe

/-- Block 12 is sent; the partner's block 2 arrives and is passed on to the next device as block 7. -/
theorem part20 {Q : _ → sProp 𝕄} (v2 v5 v8 v32 v71 v88 v127 v639 v640 : BitVec 32) :
    env m K ⊢ iprop((KitS c 12 ∗ Src m c 12 ∗ land c 12 ∗ Owe c 9) -∗ (Wt c (rIx 2) ∗ KitS c 7 ∗ land c 7)
      -∗ (∀ r, (Owe c 7 ∗ Wt c (sIx 12) ∗ Got m c 2 ∗ Wt c (sIx 7) ∗ Src m c 13) -∗ Q r)
      -∗ run c (atArgs (k0_part20 (F := F)) c v2 v5 v8 v32 v71 v88 v127 v639 v640) Q) := by
  simp only [atArgs, k0_part20_eq_skeleton]
  unfold k0_part20_skel Got
  simp only [Prog.lift, Prog.bind_op, Prog.bind_ret, Prog.pure_eq_ret]
  iintro #HE ⟨HK, HS, HL, HO⟩ ⟨HW, HK1, HL1⟩ Hk
  unfold Src
  iapply (step_relay m K 12 (by decide) 8 (by decide) rfl (dev12_eq c) rfl rfl rfl (row_eq (off11_1 c) (src_lo c).2.2.2.2.1)) $$ HE HK HS HL HO
  iintro ⟨HW0, HO⟩
  iapply (wait_recv m K 2 8 rfl rfl (by decide)) $$ HE HW HO
  iintro ⟨HO, HD, HB⟩
  ihave HB := (fork2 m c).1 $$ HB
  icases HB with ⟨HB, HS, HS'⟩
  unfold Src
  iapply (step_relay m K 7 (by decide) 7 (by decide) rfl (dev13_eq c) rfl rfl rfl (row_eq (off11_2 c) (src_lo c).2.2.1)) $$ HE HK1 HS HL1 HO
  iintro ⟨HW1, HO⟩
  iapply run_ret
  iapply Hk
  iframe

/-- Block 13 is sent; block 5 arrives and is passed on as block 8. -/
theorem part21 {Q : _ → sProp 𝕄} (v5 v71 v88 v144 v673 : BitVec 32) :
    env m K ⊢ iprop((KitS c 13 ∗ Src m c 13 ∗ land c 13 ∗ Owe c 7) -∗ (Wt c (rIx 5) ∗ KitS c 8 ∗ land c 8)
      -∗ (∀ r, (Owe c 5 ∗ Wt c (sIx 13) ∗ Got m c 5 ∗ Wt c (sIx 8)) -∗ Q r)
      -∗ run c (atArgs (k0_part21 (F := F)) c v5 v71 v88 v144 v673) Q) := by
  simp only [atArgs, k0_part21_eq_skeleton]
  unfold k0_part21_skel Got
  simp only [Prog.lift, Prog.bind_op, Prog.bind_ret, Prog.pure_eq_ret]
  iintro #HE ⟨HK, HS, HL, HO⟩ ⟨HW, HK1, HL1⟩ Hk
  unfold Src
  iapply (step_relay m K 13 (by decide) 6 (by decide) rfl (dev14_eq c) rfl rfl rfl (row_eq (off11_2 c) (src_lo c).2.2.2.2.2.1)) $$ HE HK HS HL HO
  iintro ⟨HW0, HO⟩
  iapply (wait_recv m K 5 6 rfl rfl (by decide)) $$ HE HW HO
  iintro ⟨HO, HD, HB⟩
  ihave HB := (fork5 m c).1 $$ HB
  icases HB with ⟨HB, HS⟩
  unfold Src
  iapply (step_relay m K 8 (by decide) 5 (by decide) rfl (dev15_eq c) rfl rfl rfl (row_eq (off14_eq c) (src_lo c).2.2.2.2.2.2.1)) $$ HE HK1 HS HL1 HO
  iintro ⟨HW1, HO⟩
  iapply run_ret
  iapply Hk
  iframe

/-- Block 6, which has arrived, is passed on by halves: its first half as block 9. Block 12 arrives. -/
theorem part22 {Q : _ → sProp 𝕄} (v5 v71 v88 v127 v144 v705 v706 : BitVec 32) :
    env m K ⊢ iprop((Wt c (rIx 6) ∗ KitS c 9 ∗ land c 9 ∗ Owe c 5) -∗ Wt c (rIx 12)
      -∗ (∀ r, (Owe c 4 ∗ Got m c 6 ∗ Sp m c (lo c 6 + 128) 128 ∗ Wt c (sIx 9) ∗ Got m c 12 ∗ Sp m c (lo c 12) 128 ∗ Src m c 14) -∗ Q r)
      -∗ run c (atArgs (k0_part22 (F := F)) c v5 v71 v88 v127 v144 v705 v706) Q) := by
  simp only [atArgs, k0_part22_eq_skeleton]
  unfold k0_part22_skel Got
  simp only [Prog.lift, Prog.bind_op, Prog.bind_ret, Prog.pure_eq_ret]
  iintro #HE ⟨HW, HK, HL, HO⟩ HW1 Hk
  iapply (wait_recv m K 6 5 rfl rfl (by decide)) $$ HE HW HO
  iintro ⟨HO, HD, HB⟩
  ihave HB := (fork6 m c).1 $$ HB
  icases HB with ⟨HB, HS, HX⟩
  unfold Src
  iapply (step_relay m K 9 (by decide) 4 (by decide) rfl (dev16_eq c) rfl rfl rfl (row_eq (off15_0 c) (src_lo c).2.2.2.2.2.2.2.1)) $$ HE HK HS HL HO
  iintro ⟨HW0, HO⟩
  iapply (wait_recv m K 12 4 rfl rfl (by decide)) $$ HE HW1 HO
  iintro ⟨HO, HD1, HB1⟩
  ihave HB1 := (fork12 m c).1 $$ HB1
  icases HB1 with ⟨HB1, HX1, HS1⟩
  unfold Src
  iapply run_ret
  iapply Hk
  iframe

/-- Block 14, the last half of block 12, is sent; block 13 arrives and is passed on as block 15. -/
theorem part23 {Q : _ → sProp 𝕄} (v2 v5 v32 v127 v144 v739 : BitVec 32) :
    env m K ⊢ iprop((KitS c 14 ∗ Src m c 14 ∗ land c 14 ∗ Owe c 4) -∗ (Wt c (rIx 13) ∗ KitS c 15 ∗ land c 15)
      -∗ (∀ r, (Owe c 2 ∗ Wt c (sIx 14) ∗ Got m c 13 ∗ Wt c (sIx 15)) -∗ Q r)
      -∗ run c (atArgs (k0_part23 (F := F)) c v2 v5 v32 v127 v144 v739) Q) := by
  simp only [atArgs, k0_part23_eq_skeleton]
  unfold k0_part23_skel Got
  simp only [Prog.lift, Prog.bind_op, Prog.bind_ret, Prog.pure_eq_ret]
  iintro #HE ⟨HK, HS, HL, HO⟩ ⟨HW, HK1, HL1⟩ Hk
  unfold Src
  iapply (step_relay m K 14 (by decide) 3 (by decide) rfl (dev17_eq c) rfl rfl rfl (row_eq (off15_1 c) (src_lo c).2.2.2.2.2.2.2.2.1)) $$ HE HK HS HL HO
  iintro ⟨HW0, HO⟩
  iapply (wait_recv m K 13 3 rfl rfl (by decide)) $$ HE HW HO
  iintro ⟨HO, HD, HB⟩
  ihave HB := (fork13 m c).1 $$ HB
  icases HB with ⟨HB, HS⟩
  unfold Src
  iapply (step_relay m K 15 (by decide) 2 (by decide) rfl (dev18_eq c) rfl rfl rfl (row_eq (off13_13 c) (src_lo c).2.2.2.2.2.2.2.2.2.1)) $$ HE HK1 HS HL1 HO
  iintro ⟨HW1, HO⟩
  iapply run_ret
  iapply Hk
  iframe

/-- The partner's block 3 arrives and is passed on as block 10, and block 4 arrives. -/
theorem part24 {Q : _ → sProp 𝕄} (v2 v5 v8 v32 v71 v88 v127 v771 v772 : BitVec 32) :
    env m K ⊢ iprop((Wt c (rIx 3) ∗ KitS c 10 ∗ land c 10 ∗ Owe c 2) -∗ Wt c (rIx 4)
      -∗ (∀ r, (Owe c 1 ∗ Got m c 3 ∗ Wt c (sIx 10) ∗ Got m c 4 ∗ Src m c 16) -∗ Q r)
      -∗ run c (atArgs (k0_part24 (F := F)) c v2 v5 v8 v32 v71 v88 v127 v771 v772) Q) := by
  simp only [atArgs, k0_part24_eq_skeleton]
  unfold k0_part24_skel Got
  simp only [Prog.lift, Prog.bind_op, Prog.bind_ret, Prog.pure_eq_ret]
  iintro #HE ⟨HW, HK, HL, HO⟩ HW1 Hk
  iapply (wait_recv m K 3 2 rfl rfl (by decide)) $$ HE HW HO
  iintro ⟨HO, HD, HB⟩
  ihave HB := (fork3 m c).1 $$ HB
  icases HB with ⟨HB, HS⟩
  unfold Src
  iapply (step_relay m K 10 (by decide) 1 (by decide) rfl (dev19_eq c) rfl rfl rfl (row_eq (off16_eq c) (src_lo c).2.2.2.2.2.2.2.2.2.2.1)) $$ HE HK HS HL HO
  iintro ⟨HW0, HO⟩
  iapply (wait_recv m K 4 1 rfl rfl (by decide)) $$ HE HW1 HO
  iintro ⟨HO, HD1, HB1⟩
  ihave HB1 := (fork4 m c).1 $$ HB1
  icases HB1 with ⟨HB1, HS1⟩
  unfold Src
  iapply run_ret
  iapply Hk
  iframe

/-- The last relay, then the waits for the first half of the own columns. -/
theorem part25 {Q : _ → sProp 𝕄} (v5 v144 v803 w : BitVec 32) :
    env m K ⊢ iprop((KitS c 16 ∗ Src m c 16 ∗ land c 16 ∗ Owe c 1) -∗ (Wt c (myIx 0) ∗ Wt c (myIx 1) ∗ Wt c (myIx 2) ∗ Wt c (myIx 3))
      -∗ ((Owe c 0 ∗ Wt c (sIx 16) ∗ myDone m c 0 ∗ myDone m c 1 ∗ myDone m c 2 ∗ myDone m c 3) -∗ Q ⟨⟩)
      -∗ run c (atArgs (k0_part25 (F := F)) c v5 v144 v803 w) Q) := by
  simp only [atArgs, k0_part25_eq_skeleton]
  unfold k0_part25_skel
  simp only [Prog.lift, Prog.bind_op, Prog.bind_ret, Prog.pure_eq_ret]
  iintro #HE ⟨HK, HS, HL, HO⟩ ⟨H0, H1, H2, H3⟩ Hk
  unfold Src
  iapply (step_relay m K 16 (by decide) 0 (by decide) rfl (dev20_eq c) rfl rfl rfl (row_eq (off12_1 c) (src_lo c).2.2.2.2.2.2.2.2.2.2.2)) $$ HE HK HS HL HO
  iintro ⟨HW0, HO⟩
  iapply (wait_mine m K 0 0 rfl rfl) $$ HE H0 HO; iintro ⟨HO, H0⟩
  iapply (wait_mine m K 1 0 rfl rfl) $$ HE H1 HO; iintro ⟨HO, H1⟩
  iapply (wait_mine m K 2 0 rfl rfl) $$ HE H2 HO; iintro ⟨HO, H2⟩
  iapply (wait_mine m K 3 0 rfl rfl) $$ HE H3 HO; iintro ⟨HO, H3⟩
  iapply run_ret
  iapply Hk
  iframe

end Parts

end Cert.Exchange

end
-- ==== Proof.Sums.lean ====
/-
# The additions

Region by region: the landed rows, widened, are added to the own columns and the sums copied out; then the body waits for
every source it has lent and for the copies out.
-/
module

public import proofs.«01_k».proof.Proof.Relays

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## One addition -/

/-- The landed blocks addition `i` reads. -/
def gotR (c : Dev nD) : Fin 8 → sProp 𝕄
  | 0 => iprop(Got m c 0 ∗ Got m c 1 ∗ Got m c 2)
  | 1 => iprop(Got m c 3 ∗ Got m c 4)
  | 2 => iprop(Got m c 5 ∗ Got m c 6 ∗ Got m c 7)
  | 3 => iprop(Got m c 11 ∗ Got m c 12 ∗ Got m c 13)
  | 4 => iprop(Got m c 8 ∗ Got m c 9)
  | 5 => iprop(Got m c 14 ∗ Got m c 15)
  | 6 => Got m c 10
  | 7 => Got m c 16

/-- Two blocks that make up a region can be held as the region, and given back. -/
theorem got_two (c : Dev nD) (i : Fin 8) (l₁ l₂ : Fin 17) (h : (RegD m c i : sProp 𝕄) ⊣⊢ iprop(Kp m c l₁ ∗ Kp m c l₂)) :
    iprop(Got m c l₁ ∗ Got m c l₂) ⊢ iprop(RegD m c i ∗ (RegD m c i -∗ Got m c l₁ ∗ Got m c l₂)) := by
  unfold Got
  iintro ⟨⟨HD1, H1⟩, HD2, H2⟩
  isplitl [H1 H2]; · iapply h.2; iframe
  iintro H
  ihave H := h.1 $$ H
  icases H with ⟨H1, H2⟩
  iframe

/-- Three blocks that make up a region can be held as the region, and given back. -/
theorem got_three (c : Dev nD) (i : Fin 8) (l₁ l₂ l₃ : Fin 17) (h : (RegD m c i : sProp 𝕄) ⊣⊢ iprop(Kp m c l₁ ∗ Kp m c l₂ ∗ Kp m c l₃)) :
    iprop(Got m c l₁ ∗ Got m c l₂ ∗ Got m c l₃) ⊢ iprop(RegD m c i ∗ (RegD m c i -∗ Got m c l₁ ∗ Got m c l₂ ∗ Got m c l₃)) := by
  unfold Got
  iintro ⟨⟨HD1, H1⟩, ⟨HD2, H2⟩, HD3, H3⟩
  isplitl [H1 H2 H3]; · iapply h.2; iframe
  iintro H
  ihave H := h.1 $$ H
  icases H with ⟨H1, H2, H3⟩
  iframe

/-- A block that is a region can be held as the region, and given back. -/
theorem got_one (c : Dev nD) (i : Fin 8) (l : Fin 17) (h : (RegD m c i : sProp 𝕄) = Kp m c l) :
    Got m c l ⊢ iprop(RegD m c i ∗ (RegD m c i -∗ Got m c l)) := by
  unfold Got
  rw [h]
  iintro ⟨HD, H⟩
  isplitl [H]; · iexact H
  iintro H
  iframe

/-- They hold the landing buffer's rows, and get them back. -/
theorem gotR_open (c : Dev nD) : ∀ i : Fin 8, gotR m c i ⊢ iprop(RegD m c i ∗ (RegD m c i -∗ gotR m c i))
  | 0 => got_three m c 0 0 1 2 (reg0 m c)
  | 1 => got_two m c 1 3 4 (reg1 m c)
  | 2 => got_three m c 2 5 6 7 (reg2 m c)
  | 3 => got_three m c 3 11 12 13 (reg3 m c)
  | 4 => got_two m c 4 8 9 (reg4 m c)
  | 5 => got_two m c 5 14 15 (reg5 m c)
  | 6 => got_one m c 6 10 (reg6 m c)
  | 7 => got_one m c 7 16 (reg7 m c)

/-- Before addition `i`: its copy out's kit, the sums' rows and the result's, at whatever they hold. -/
def ouPre (c : Dev nD) (i : Fin 8) : sProp 𝕄 :=
  iprop(Kit c (ouIx i) ∗ (∃ f, ovR (F := F) c (rlo c i) (rn i) f) ∗ ∃ f, resR (F := F) c (rlo c i) (rn i) f)

/-- A payload that adds the widened landed rows to the own columns is the sum. -/
theorem ov_val (c : Dev nD) {n : ℕ} {off : Fin 2 → ℕ} {inb : ∀ a, off a + (![n, 1024] : Fin 2 → ℕ) a ≤ S4096x1024.size a}
    (pay : ((⟨2, ![n, 1024]⟩ : Shape).Idx → F .f32) → ((⟨2, ![n, 1024]⟩ : Shape).Idx → F .bf16) → (⟨2, ![n, 1024]⟩ : Shape).Idx → F .f32)
    (hp : ∀ a b j, pay a b j = FloatOps.addf (a j) (wdn (b j))) (j : (Rect.unit (s := S4096x1024) off ![n, 1024] inb).shape.Idx) :
    pay (myM.view.readAt (Elt F) (Rect.unit (s := S4096x1024) off ![n, 1024] inb).toLoadRect (MY m c))
        (dM.view.readAt (Elt F) (Rect.unit (s := S4096x1024) off ![n, 1024] inb).toLoadRect (D m c)) j
      = OV m c ((Rect.unit (s := S4096x1024) off ![n, 1024] inb).emb j) := hp _ _ j

section Rules

variable {c : Dev nD} {α : Type} (i : Fin 8) {n : ℕ} (hn : n = rn i) {off : Fin 2 → ℕ}
    {inb : ∀ a, off a + (![n, 1024] : Fin 2 → ℕ) a ≤ S4096x1024.size a} (ho : off = ![rlo c i, 0])
    (pay : ((⟨2, ![n, 1024]⟩ : Shape).Idx → F .f32) → ((⟨2, ![n, 1024]⟩ : Shape).Idx → F .bf16) → (⟨2, ![n, 1024]⟩ : Shape).Idx → F .f32)
    (hp : ∀ a b j, pay a b j = FloatOps.addf (a j) (wdn (b j))) {f : Buf (Elt F) ((c : Thread nD τ).loc cc0_scratch4)}

include hn ho

/-- The load of the landed rows and the unused one of the sums' rows. -/
theorem load_rest {Q : α → sProp 𝕄} {hl₂ hl₃} {k : ((Rect.unit (s := S4096x1024) off ![n, 1024] inb).toLoadRect.shape.Idx → Elt F .bf16) → ((Rect.unit (s := S4096x1024) off ![n, 1024] inb).toLoadRect.shape.Idx → Elt F .f32) →
      Prog (TpuEff nD τ sig (Elt F) Λ₀ .tc) α} :
    iprop(gotR m c i ∗ ovR c (rlo c i) (rn i) f)
      ⊢ iprop(((gotR m c i ∗ ovR c (rlo c i) (rn i) f)
          -∗ run c (k (dM.view.readAt (Elt F) (Rect.unit (s := S4096x1024) off ![n, 1024] inb).toLoadRect (D m c)) (ovM.view.readAt (Elt F) (Rect.unit (s := S4096x1024) off ![n, 1024] inb).toLoadRect f)) Q)
        -∗ run c (.op (.load dM (Rect.unit (s := S4096x1024) off ![n, 1024] inb).toLoadRect hl₂) fun (b : (Rect.unit (s := S4096x1024) off ![n, 1024] inb).toLoadRect.shape.Idx → Elt F .bf16) => .op (.load ovM (Rect.unit (s := S4096x1024) off ![n, 1024] inb).toLoadRect hl₃) (k b)) Q) := by
  subst hn
  iintro ⟨HG, HV⟩ Hk
  ihave HG := (gotR_open m c i) $$ HG
  icases HG with ⟨HD, HG⟩
  unfold RegD
  iapply (ld_d ho) $$ HD; iintro HD
  iapply (ld_ov ho) $$ HV; iintro HV
  ihave HG := HG $$ HD
  iapply Hk
  iframe

include hp

/-- The store of the sums. -/
theorem add_store {Q : α → sProp 𝕄} {hx hm} {k : PUnit → Prog (TpuEff nD τ sig (Elt F) Λ₀ .tc) α} :
    ovR c (rlo c i) (rn i) f
      ⊢ iprop((ovR c (rlo c i) (rn i) (OV m c) -∗ run c (k ⟨⟩) Q)
        -∗ run c (.op (.store ovM (Rect.unit (s := S4096x1024) off ![n, 1024] inb)
            (pay (myM.view.readAt (Elt F) (Rect.unit (s := S4096x1024) off ![n, 1024] inb).toLoadRect (MY m c)) (dM.view.readAt (Elt F) (Rect.unit (s := S4096x1024) off ![n, 1024] inb).toLoadRect (D m c))) Finset.univ hx hm) k) Q) := by
  subst hn
  exact st_ov m ho (ov_val m c pay hp)

/-- One addition: the three loads and the store. -/
theorem add_region {Q : α → sProp 𝕄} {hl₁ hl₂ hl₃ hx hm} {k : PUnit → Prog (TpuEff nD τ sig (Elt F) Λ₀ .tc) α} :
    iprop(myAll m c ∗ gotR m c i ∗ ovR c (rlo c i) (rn i) f)
      ⊢ iprop(((myAll m c ∗ gotR m c i ∗ ovR c (rlo c i) (rn i) (OV m c)) -∗ run c (k ⟨⟩) Q)
        -∗ run c (.op (.load myM (Rect.unit (s := S4096x1024) off ![n, 1024] inb).toLoadRect hl₁) fun (a : (Rect.unit (s := S4096x1024) off ![n, 1024] inb).toLoadRect.shape.Idx → Elt F .f32) =>
            .op (.load dM (Rect.unit (s := S4096x1024) off ![n, 1024] inb).toLoadRect hl₂) fun (b : (Rect.unit (s := S4096x1024) off ![n, 1024] inb).toLoadRect.shape.Idx → Elt F .bf16) =>
            .op (.load ovM (Rect.unit (s := S4096x1024) off ![n, 1024] inb).toLoadRect hl₃) fun (_ : (Rect.unit (s := S4096x1024) off ![n, 1024] inb).toLoadRect.shape.Idx → Elt F .f32) =>
            .op (.store ovM (Rect.unit (s := S4096x1024) off ![n, 1024] inb) (pay a b) Finset.univ hx hm) k) Q) := by
  iintro ⟨HM, HG, HV⟩ Hk
  iapply (ld_my m) $$ HM; iintro HM
  iapply (load_rest m i hn ho) $$ [HG HV]
  · iframe
  iintro ⟨HG, HV⟩
  iapply (add_store m i hn ho pay hp) $$ HV; iintro HV
  iapply Hk
  iframe

end Rules

/-- What is stored as a sum, entry by entry: the own entry plus the landed one widened. -/
theorem pay7_eq (a : Vec F S768x1024 .f32) (b : Vec F S768x1024 .bf16) (j : S768x1024.Idx) : k0_pay7 a b j = FloatOps.addf (a j) (wdn (b j)) := by
  unfold k0_pay7; rw [shapeCast_self]; rfl
/-- What is stored as a sum, entry by entry: the own entry plus the landed one widened. -/
theorem pay8_eq (a : Vec F S512x1024 .f32) (b : Vec F S512x1024 .bf16) (j : S512x1024.Idx) : k0_pay8 a b j = FloatOps.addf (a j) (wdn (b j)) := by
  unfold k0_pay8; rw [shapeCast_self]; rfl
/-- What is stored as a sum, entry by entry: the own entry plus the landed one widened. -/
theorem pay9_eq (a : Vec F S768x1024 .f32) (b : Vec F S768x1024 .bf16) (j : S768x1024.Idx) : k0_pay9 a b j = FloatOps.addf (a j) (wdn (b j)) := by
  unfold k0_pay9; rw [shapeCast_self]; rfl
/-- What is stored as a sum, entry by entry: the own entry plus the landed one widened. -/
theorem pay10_eq (a : Vec F S768x1024 .f32) (b : Vec F S768x1024 .bf16) (j : S768x1024.Idx) : k0_pay10 a b j = FloatOps.addf (a j) (wdn (b j)) := by
  unfold k0_pay10; rw [shapeCast_self]; rfl
/-- What is stored as a sum, entry by entry: the own entry plus the landed one widened. -/
theorem pay11_eq (a : Vec F S384x1024 .f32) (b : Vec F S384x1024 .bf16) (j : S384x1024.Idx) : k0_pay11 a b j = FloatOps.addf (a j) (wdn (b j)) := by
  unfold k0_pay11; rw [shapeCast_self]; rfl
/-- What is stored as a sum, entry by entry: the own entry plus the landed one widened. -/
theorem pay12_eq (a : Vec F S384x1024 .f32) (b : Vec F S384x1024 .bf16) (j : S384x1024.Idx) : k0_pay12 a b j = FloatOps.addf (a j) (wdn (b j)) := by
  unfold k0_pay12; rw [shapeCast_self]; rfl
/-- What is stored as a sum, entry by entry: the own entry plus the landed one widened. -/
theorem pay13_eq (a : Vec F S256x1024 .f32) (b : Vec F S256x1024 .bf16) (j : S256x1024.Idx) : k0_pay13 a b j = FloatOps.addf (a j) (wdn (b j)) := by
  unfold k0_pay13; rw [shapeCast_self]; rfl
/-- What is stored as a sum, entry by entry: the own entry plus the landed one widened. -/
theorem pay14_eq (a : Vec F S256x1024 .f32) (b : Vec F S256x1024 .bf16) (j : S256x1024.Idx) : k0_pay14 a b j = FloatOps.addf (a j) (wdn (b j)) := by
  unfold k0_pay14; rw [shapeCast_self]; rfl

/-! ## The own columns, whole -/

/-- What is left of the eight copies once their rows are joined. -/
def myEnd (c : Dev nD) : sProp 𝕄 :=
  iprop(bigSep Finset.univ (fun k : Fin 8 => Dn (F := F) c (myIx k)) ∗ bigSep Finset.univ fun k : Fin 8 => xT m c (5 + k.val))

/-- All eight copies of the own columns, arrived, are the whole buffer. -/
theorem mine_join (c : Dev nD) : bigSep Finset.univ (myDone m c) ⊢ iprop(myAll m c ∗ myEnd m c) := by
  have h : bigSep Finset.univ (myDone m c) = iprop(bigSep Finset.univ (fun k : Fin 8 => Dn (F := F) c (myIx k))
      ∗ (bigSep Finset.univ fun k : Fin 8 => myR c (512 * k.val) 512 (MY m c)) ∗ bigSep Finset.univ fun k : Fin 8 => xT m c (5 + k.val)) := by
    unfold myDone; rw [bigSep_sep', bigSep_sep']
  rw [h]
  unfold myAll myEnd
  iintro ⟨H1, H2, H3⟩
  isplitl [H2]
  · ihave H := (Entails.of_eq (my_cut c (MY m c)).symm) $$ H2; iexact H
  iframe

/-- The eight copies, gathered as a family. -/
theorem mine_list (c : Dev nD) : iprop(myDone m c 0 ∗ myDone m c 1 ∗ myDone m c 2 ∗ myDone m c 3 ∗ myDone m c 4 ∗ myDone m c 5 ∗ myDone m c 6 ∗ myDone m c 7)
    ⊢ bigSep Finset.univ (myDone m c) := by
  rw [bigSep_univ_eq_bigSepL [0, 1, 2, 3, 4, 5, 6, 7] (by decide) (by decide)]
  simp only [bigSepL_cons_cons, bigSepL_singleton]
  exact BI.Entails.refl _

/-- The values two additions carry from one part of the body to the next. -/
abbrev my5 (c : Dev nD) : Vec F S384x1024 .f32 :=
  myM.view.readAt (Elt F) (Rect.unit (s := S4096x1024) (k0_off28 c) S384x1024.size (k0_off28_inb c)).toLoadRect (MY m c)
abbrev my6 (c : Dev nD) : Vec F S256x1024 .f32 :=
  myM.view.readAt (Elt F) (Rect.unit (s := S4096x1024) (k0_off31 c) S256x1024.size (k0_off31_inb c)).toLoadRect (MY m c)
abbrev d6 (c : Dev nD) : Vec F S256x1024 .bf16 :=
  dM.view.readAt (Elt F) (Rect.unit (s := S4096x1024) (k0_off31 c) S256x1024.size (k0_off31_inb c)).toLoadRect (D m c)

/-- A sent block's source cell after its wait: the share of the source back. -/
def Sent (c : Dev nD) (l : Fin 17) : sProp 𝕄 := iprop(Dn c (sIx l) ∗ pay m c (.send l))

section Parts

variable (c : Dev nD)

/-- The last four copies of the own columns arrive, and region 0 is added up. -/
theorem part26 {Q : _ → sProp 𝕄} (v21 : BitVec 32) :
    env m K ⊢ iprop((Wt c (myIx 4) ∗ Wt c (myIx 5) ∗ Wt c (myIx 6) ∗ Wt c (myIx 7) ∗ Owe c 0)
      -∗ (myDone m c 0 ∗ myDone m c 1 ∗ myDone m c 2 ∗ myDone m c 3) -∗ (gotR m c 0 ∗ ∃ f, ovR c (rlo c 0) (rn 0) f)
      -∗ ((Owe c 0 ∗ myEnd m c ∗ myAll m c ∗ gotR m c 0 ∗ ovR c (rlo c 0) (rn 0) (OV m c)) -∗ Q ⟨⟩)
      -∗ run c (atArgs (k0_part26 (F := F)) c v21) Q) := by
  simp only [atArgs, k0_part26_eq_skeleton]
  unfold k0_part26_skel
  simp only [Prog.lift, Prog.bind_op, Prog.bind_ret, Prog.pure_eq_ret]
  iintro #HE ⟨H4, H5, H6, H7, HO⟩ ⟨H0, H1, H2, H3⟩ ⟨HG, %f, HV⟩ Hk
  iapply (wait_mine m K 4 0 rfl rfl) $$ HE H4 HO; iintro ⟨HO, H4⟩
  iapply (wait_mine m K 5 0 rfl rfl) $$ HE H5 HO; iintro ⟨HO, H5⟩
  iapply (wait_mine m K 6 0 rfl rfl) $$ HE H6 HO; iintro ⟨HO, H6⟩
  iapply (wait_mine m K 7 0 rfl rfl) $$ HE H7 HO; iintro ⟨HO, H7⟩
  ihave HM := (mine_list m c) $$ [H0 H1 H2 H3 H4 H5 H6 H7]
  · iframe
  ihave HM := (mine_join m c) $$ HM
  icases HM with ⟨HM, HN⟩
  iapply (add_region m 0 rfl (off17_eq c) k0_pay7 pay7_eq) $$ [HM HG HV]
  · iframe
  iintro ⟨HM, HG, HV⟩
  iapply run_ret
  iapply Hk
  iframe

/-- Region 0 is copied out; region 1 is added up and copied out; block 7 arrives. -/
theorem part27 {Q : _ → sProp 𝕄} (v5 v21 v31 v71 v88 : BitVec 32) :
    env m K ⊢ iprop((ovR c (rlo c 0) (rn 0) (OV m c) ∗ Kit c (ouIx 0) ∗ ∃ f, resR c (rlo c 0) (rn 0) f) -∗ (myAll m c ∗ gotR m c 1 ∗ ouPre c 1) -∗ (Wt c (rIx 7) ∗ Owe c 0)
      -∗ (∀ r, (Wt c (ouIx 0) ∗ myAll m c ∗ gotR m c 1 ∗ Wt c (ouIx 1) ∗ Owe c 0 ∗ Got m c 7 ∗ Sp m c (lo c 7) (nn 7)) -∗ Q r)
      -∗ run c (atArgs (k0_part27 (F := F)) c v5 v21 v31 v71 v88) Q) := by
  simp only [atArgs, k0_part27_eq_skeleton]
  unfold k0_part27_skel
  simp only [Prog.lift, Prog.bind_op, Prog.bind_ret, Prog.pure_eq_ret]
  iintro #HE ⟨HV, HK, %f0, HR⟩ ⟨HM, HG, HU⟩ ⟨HW, HO⟩ Hk
  iapply (step_out m K 0 rfl rfl (off18_eq c) (off18_eq c)) $$ HE HK HV HR; iintro HW0
  unfold ouPre
  icases HU with ⟨HK, ⟨%f1, HV⟩, %f2, HR⟩
  iapply (add_region m 1 rfl (off19_eq c) k0_pay8 pay8_eq) $$ [HM HG HV]
  · iframe
  iintro ⟨HM, HG, HV⟩
  iapply (step_out m K 1 rfl rfl (off20_eq c) (off20_eq c)) $$ HE HK HV HR; iintro HW1
  iapply (wait_recv m K 7 0 rfl rfl (by decide)) $$ HE HW HO
  iintro ⟨HO, HD, HB⟩
  ihave HB := (leftover m c 7).1 $$ HB
  icases HB with ⟨HB, HX⟩
  unfold Got
  iapply run_ret
  iapply Hk
  iframe

/-- Region 2 is added up and copied out; block 11 arrives. -/
theorem part28 {Q : _ → sProp 𝕄} (v5 v21 v127 v144 v897 w : BitVec 32) (u : BitVec 1) (x : BitVec 32) :
    env m K ⊢ iprop((myAll m c ∗ gotR m c 2 ∗ ouPre c 2) -∗ (Wt c (rIx 11) ∗ Owe c 0)
      -∗ (∀ r, (myAll m c ∗ gotR m c 2 ∗ Wt c (ouIx 2) ∗ Owe c 0 ∗ Got m c 11 ∗ Sp m c (lo c 11) (nn 11)) -∗ Q r)
      -∗ run c (atArgs (k0_part28 (F := F)) c v5 v21 v127 v144 v897 w u x) Q) := by
  simp only [atArgs, k0_part28_eq_skeleton]
  unfold k0_part28_skel
  simp only [Prog.lift, Prog.bind_op, Prog.bind_ret, Prog.pure_eq_ret]
  iintro #HE ⟨HM, HG, HU⟩ ⟨HW, HO⟩ Hk
  unfold ouPre
  icases HU with ⟨HK, ⟨%f1, HV⟩, %f2, HR⟩
  iapply (add_region m 2 rfl (off21_2 c) k0_pay9 pay9_eq) $$ [HM HG HV]
  · iframe
  iintro ⟨HM, HG, HV⟩
  iapply (step_out m K 2 rfl rfl (off22_2 c) (off22_2 c)) $$ HE HK HV HR; iintro HW1
  iapply (wait_recv m K 11 0 rfl rfl (by decide)) $$ HE HW HO
  iintro ⟨HO, HD, HB⟩
  ihave HB := (leftover m c 11).1 $$ HB
  icases HB with ⟨HB, HX⟩
  unfold Got
  iapply run_ret
  iapply Hk
  iframe

/-- Region 3 is added up and copied out; block 8 arrives. -/
theorem part29 {Q : _ → sProp 𝕄} (v5 v71 v88 v933 w : BitVec 32) (u : BitVec 1) :
    env m K ⊢ iprop((myAll m c ∗ gotR m c 3 ∗ ouPre c 3) -∗ (Wt c (rIx 8) ∗ Owe c 0)
      -∗ (∀ r, (myAll m c ∗ gotR m c 3 ∗ Wt c (ouIx 3) ∗ Owe c 0 ∗ Got m c 8 ∗ Sp m c (lo c 8) (nn 8)) -∗ Q r)
      -∗ run c (atArgs (k0_part29 (F := F)) c v5 v71 v88 v933 w u) Q) := by
  simp only [atArgs, k0_part29_eq_skeleton]
  unfold k0_part29_skel
  simp only [Prog.lift, Prog.bind_op, Prog.bind_ret, Prog.pure_eq_ret]
  iintro #HE ⟨HM, HG, HU⟩ ⟨HW, HO⟩ Hk
  unfold ouPre
  icases HU with ⟨HK, ⟨%f1, HV⟩, %f2, HR⟩
  iapply (add_region m 3 rfl (off21_3 c) k0_pay10 pay10_eq) $$ [HM HG HV]
  · iframe
  iintro ⟨HM, HG, HV⟩
  iapply (step_out m K 3 rfl rfl (off22_3 c) (off22_3 c)) $$ HE HK HV HR; iintro HW1
  iapply (wait_recv m K 8 0 rfl rfl (by decide)) $$ HE HW HO
  iintro ⟨HO, HD, HB⟩
  ihave HB := (leftover m c 8).1 $$ HB
  icases HB with ⟨HB, HX⟩
  unfold Got
  iapply run_ret
  iapply Hk
  iframe

/-- Block 9 arrives, and region 4 is added up and copied out. -/
theorem part30 {Q : _ → sProp 𝕄} (v5 v21 v88 v969 : BitVec 32) :
    env m K ⊢ iprop((Wt c (rIx 9) ∗ Owe c 0) -∗ (myAll m c ∗ Got m c 8 ∗ ouPre c 4)
      -∗ (∀ r, (Owe c 0 ∗ Sp m c (lo c 9) (nn 9) ∗ myAll m c ∗ gotR m c 4 ∗ Wt c (ouIx 4)) -∗ Q r)
      -∗ run c (atArgs (k0_part30 (F := F)) c v5 v21 v88 v969) Q) := by
  simp only [atArgs, k0_part30_eq_skeleton]
  unfold k0_part30_skel
  simp only [Prog.lift, Prog.bind_op, Prog.bind_ret, Prog.pure_eq_ret]
  iintro #HE ⟨HW, HO⟩ ⟨HM, HG8, HU⟩ Hk
  iapply (wait_recv m K 9 0 rfl rfl (by decide)) $$ HE HW HO
  iintro ⟨HO, HD, HB⟩
  ihave HB := (leftover m c 9).1 $$ HB
  icases HB with ⟨HB, HX⟩
  have hG : iprop(Got m c 8 ∗ Dn c (rIx 9) ∗ Kp m c 9) ⊢ gotR m c 4 := BI.Entails.refl _
  ihave HG := hG $$ [HG8 HD HB]
  · iframe
  unfold ouPre
  icases HU with ⟨HK, ⟨%f1, HV⟩, %f2, HR⟩
  iapply (add_region m 4 rfl (off25_eq c) k0_pay11 pay11_eq) $$ [HM HG HV]
  · iframe
  iintro ⟨HM, HG, HV⟩
  iapply (step_out m K 4 rfl rfl (off26_eq c) (off26_eq c)) $$ HE HK HV HR; iintro HW1
  iapply run_ret
  iapply Hk
  iframe

/-- Blocks 14 and 15 arrive, and the own rows of region 5 are loaded. -/
theorem part31 {Q : _ → sProp 𝕄} (v5 v21 v127 v144 w₀ : BitVec 32) :
    env m K ⊢ iprop((Wt c (rIx 14) ∗ Wt c (rIx 15) ∗ Owe c 0) -∗ myAll m c
      -∗ (∀ w, (Owe c 0 ∗ gotR m c 5 ∗ Sp m c (lo c 14) (nn 14) ∗ Sp m c (lo c 15) (nn 15) ∗ myAll m c) -∗ Q ⟨w, my5 m c⟩)
      -∗ run c (atArgs (k0_part31 (F := F)) c v5 v21 v127 v144 w₀) Q) := by
  simp only [atArgs, k0_part31_eq_skeleton]
  unfold k0_part31_skel
  simp only [Prog.lift, Prog.bind_op, Prog.bind_ret, Prog.pure_eq_ret]
  iintro #HE ⟨HW, HW', HO⟩ HM Hk
  iapply (wait_recv m K 14 0 rfl rfl (by decide)) $$ HE HW HO
  iintro ⟨HO, HD, HB⟩
  ihave HB := (leftover m c 14).1 $$ HB
  icases HB with ⟨HB, HX⟩
  iapply (wait_recv m K 15 0 rfl rfl (by decide)) $$ HE HW' HO
  iintro ⟨HO, HD', HB'⟩
  ihave HB' := (leftover m c 15).1 $$ HB'
  icases HB' with ⟨HB', HX'⟩
  have hG : iprop((Dn c (rIx 14) ∗ Kp m c 14) ∗ Dn c (rIx 15) ∗ Kp m c 15) ⊢ gotR m c 5 := BI.Entails.refl _
  ihave HG := hG $$ [HD HB HD' HB']
  · iframe
  iapply (ld_my m) $$ HM; iintro HM
  iapply run_ret
  iapply Hk
  iframe

/-- Region 5 is added up and copied out; block 10 arrives, and region 6 is added up. -/
theorem part32 {Q : _ → sProp 𝕄} (v5 v31 v71 v88 v1037 : BitVec 32) :
    env m K ⊢ iprop((myAll m c ∗ gotR m c 5 ∗ ouPre c 5) -∗ (Wt c (rIx 10) ∗ Owe c 0) -∗ (∃ f, ovR c (rlo c 6) (rn 6) f)
      -∗ ((myAll m c ∗ gotR m c 5 ∗ Wt c (ouIx 5) ∗ Owe c 0 ∗ gotR m c 6 ∗ Sp m c (lo c 10) (nn 10) ∗ ∃ f, ovR c (rlo c 6) (rn 6) f) -∗ Q (k0_pay13 (my6 m c) (d6 m c)))
      -∗ run c (atArgs (k0_part32 (F := F)) c v5 v31 v71 v88 v1037 (my5 m c)) Q) := by
  simp only [atArgs, k0_part32_eq_skeleton]
  unfold k0_part32_skel
  simp only [Prog.lift, Prog.bind_op, Prog.bind_ret, Prog.pure_eq_ret]
  iintro #HE ⟨HM, HG, HU⟩ ⟨HW, HO⟩ ⟨%g, HV'⟩ Hk
  unfold ouPre
  icases HU with ⟨HK, ⟨%f1, HV⟩, %f2, HR⟩
  iapply (load_rest m 5 rfl (off28_eq c)) $$ [HG HV]
  · iframe
  iintro ⟨HG, HV⟩
  iapply (add_store m 5 rfl (off28_eq c) k0_pay12 pay12_eq) $$ HV; iintro HV
  iapply (step_out m K 5 rfl rfl (off29_eq c) (off29_eq c)) $$ HE HK HV HR; iintro HW1
  iapply (wait_recv m K 10 0 rfl rfl (by decide)) $$ HE HW HO
  iintro ⟨HO, HD, HB⟩
  ihave HB := (leftover m c 10).1 $$ HB
  icases HB with ⟨HB, HX⟩
  have hG : iprop(Dn c (rIx 10) ∗ Kp m c 10) ⊢ gotR m c 6 := BI.Entails.refl _
  ihave HG' := hG $$ [HD HB]
  · iframe
  iapply (ld_my m) $$ HM; iintro HM
  iapply (load_rest (n := 256) m 6 rfl (off31_eq c)) $$ [HG' HV']
  · iframe
  iintro ⟨HG', HV'⟩
  iapply run_ret
  iapply Hk
  iframe
  iexists g; iexact HV'

/-- Region 6 is copied out; block 16 arrives, and region 7 is added up. -/
theorem part33 {Q : _ → sProp 𝕄} (v5 v31 v127 v144 : BitVec 32) :
    env m K ⊢ iprop(((∃ f, ovR c (rlo c 6) (rn 6) f) ∗ Kit c (ouIx 6) ∗ ∃ f, resR c (rlo c 6) (rn 6) f) -∗ (Wt c (rIx 16) ∗ Owe c 0)
      -∗ (myAll m c ∗ ∃ f, ovR c (rlo c 7) (rn 7) f)
      -∗ ((Wt c (ouIx 6) ∗ Owe c 0 ∗ Sp m c (lo c 16) (nn 16) ∗ myAll m c ∗ gotR m c 7 ∗ ovR c (rlo c 7) (rn 7) (OV m c)) -∗ Q ⟨⟩)
      -∗ run c (atArgs (k0_part33 (F := F)) c v5 v31 v127 v144 (k0_pay13 (my6 m c) (d6 m c))) Q) := by
  simp only [atArgs, k0_part33_eq_skeleton]
  unfold k0_part33_skel
  simp only [Prog.lift, Prog.bind_op, Prog.bind_ret, Prog.pure_eq_ret]
  iintro #HE ⟨⟨%f, HV⟩, HK, %f1, HR⟩ ⟨HW, HO⟩ ⟨HM, %f2, HV'⟩ Hk
  iapply (add_store m 6 rfl (off31_eq c) k0_pay13 pay13_eq) $$ HV; iintro HV
  iapply (step_out m K 6 rfl rfl (off32_eq c) (off32_eq c)) $$ HE HK HV HR; iintro HW1
  iapply (wait_recv m K 16 0 rfl rfl (by decide)) $$ HE HW HO
  iintro ⟨HO, HD, HB⟩
  ihave HB := (leftover m c 16).1 $$ HB
  icases HB with ⟨HB, HX⟩
  have hG : iprop(Dn c (rIx 16) ∗ Kp m c 16) ⊢ gotR m c 7 := BI.Entails.refl _
  ihave HG := hG $$ [HD HB]
  · iframe
  iapply (add_region m 7 rfl (off34_eq c) k0_pay14 pay14_eq) $$ [HM HG HV']
  · iframe
  iintro ⟨HM, HG, HV⟩
  iapply run_ret
  iapply Hk
  iframe

/-- Region 7 is copied out, and the five blocks for the partner have been sent. -/
theorem part34 {Q : _ → sProp 𝕄} :
    env m K ⊢ iprop((ovR c (rlo c 7) (rn 7) (OV m c) ∗ Kit c (ouIx 7) ∗ ∃ f, resR c (rlo c 7) (rn 7) f)
      -∗ (Wt c (sIx 0) ∗ Wt c (sIx 1) ∗ Wt c (sIx 2) ∗ Wt c (sIx 3) ∗ Wt c (sIx 4) ∗ Owe c 0)
      -∗ ((Wt c (ouIx 7) ∗ Owe c 0 ∗ Sent m c 0 ∗ Sent m c 1 ∗ Sent m c 2 ∗ Sent m c 3 ∗ Sent m c 4) -∗ Q ⟨⟩)
      -∗ run c (atArgs (k0_part34 (F := F)) c) Q) := by
  simp only [atArgs, k0_part34_eq_skeleton]
  unfold k0_part34_skel
  simp only [Prog.lift, Prog.bind_op, Prog.bind_ret, Prog.pure_eq_ret]
  iintro #HE ⟨HV, HK, %f, HR⟩ ⟨H0, H1, H2, H3, H4, HO⟩ Hk
  iapply (step_out m K 7 rfl rfl (off35_eq c) (off35_eq c)) $$ HE HK HV HR; iintro HW
  iapply (wait_send m K 0 0 rfl rfl) $$ HE H0 HO; iintro ⟨HO, H0⟩
  iapply (wait_send m K 1 0 rfl rfl) $$ HE H1 HO; iintro ⟨HO, H1⟩
  iapply (wait_send m K 2 0 rfl rfl) $$ HE H2 HO; iintro ⟨HO, H2⟩
  iapply (wait_send m K 3 0 rfl rfl) $$ HE H3 HO; iintro ⟨HO, H3⟩
  iapply (wait_send m K 4 0 rfl rfl) $$ HE H4 HO; iintro ⟨HO, H4⟩
  unfold Sent
  iapply run_ret
  iapply Hk
  iframe

/-- Three blocks for each neighbour have been sent. -/
theorem part35 {Q : _ → sProp 𝕄} :
    env m K ⊢ iprop((Wt c (sIx 5) ∗ Wt c (sIx 11) ∗ Wt c (sIx 6) ∗ Wt c (sIx 12) ∗ Wt c (sIx 7) ∗ Wt c (sIx 13) ∗ Owe c 0)
      -∗ ((Owe c 0 ∗ Sent m c 5 ∗ Sent m c 11 ∗ Sent m c 6 ∗ Sent m c 12 ∗ Sent m c 7 ∗ Sent m c 13) -∗ Q ⟨⟩)
      -∗ run c (atArgs (k0_part35 (F := F)) c) Q) := by
  simp only [atArgs, k0_part35_eq_skeleton]
  unfold k0_part35_skel
  simp only [Prog.lift, Prog.bind_op, Prog.bind_ret, Prog.pure_eq_ret]
  iintro #HE ⟨H5, H11, H6, H12, H7, H13, HO⟩ Hk
  iapply (wait_send m K 5 0 rfl rfl) $$ HE H5 HO; iintro ⟨HO, H5⟩
  iapply (wait_send m K 11 0 rfl rfl) $$ HE H11 HO; iintro ⟨HO, H11⟩
  iapply (wait_send m K 6 0 rfl rfl) $$ HE H6 HO; iintro ⟨HO, H6⟩
  iapply (wait_send m K 12 0 rfl rfl) $$ HE H12 HO; iintro ⟨HO, H12⟩
  iapply (wait_send m K 7 0 rfl rfl) $$ HE H7 HO; iintro ⟨HO, H7⟩
  iapply (wait_send m K 13 0 rfl rfl) $$ HE H13 HO; iintro ⟨HO, H13⟩
  unfold Sent
  iapply run_ret
  iapply Hk
  iframe

/-- The other three for each neighbour have been sent. -/
theorem part36 {Q : _ → sProp 𝕄} :
    env m K ⊢ iprop((Wt c (sIx 8) ∗ Wt c (sIx 14) ∗ Wt c (sIx 9) ∗ Wt c (sIx 15) ∗ Wt c (sIx 10) ∗ Wt c (sIx 16) ∗ Owe c 0)
      -∗ ((Owe c 0 ∗ Sent m c 8 ∗ Sent m c 14 ∗ Sent m c 9 ∗ Sent m c 15 ∗ Sent m c 10 ∗ Sent m c 16) -∗ Q ⟨⟩)
      -∗ run c (atArgs (k0_part36 (F := F)) c) Q) := by
  simp only [atArgs, k0_part36_eq_skeleton]
  unfold k0_part36_skel
  simp only [Prog.lift, Prog.bind_op, Prog.bind_ret, Prog.pure_eq_ret]
  iintro #HE ⟨H8, H14, H9, H15, H10, H16, HO⟩ Hk
  iapply (wait_send m K 8 0 rfl rfl) $$ HE H8 HO; iintro ⟨HO, H8⟩
  iapply (wait_send m K 14 0 rfl rfl) $$ HE H14 HO; iintro ⟨HO, H14⟩
  iapply (wait_send m K 9 0 rfl rfl) $$ HE H9 HO; iintro ⟨HO, H9⟩
  iapply (wait_send m K 15 0 rfl rfl) $$ HE H15 HO; iintro ⟨HO, H15⟩
  iapply (wait_send m K 10 0 rfl rfl) $$ HE H10 HO; iintro ⟨HO, H10⟩
  iapply (wait_send m K 16 0 rfl rfl) $$ HE H16 HO; iintro ⟨HO, H16⟩
  unfold Sent
  iapply run_ret
  iapply Hk
  iframe

/-- All eight regions have been copied out. -/
theorem part37 {Q : _ → sProp 𝕄} :
    env m K ⊢ iprop((Wt c (ouIx 0) ∗ Wt c (ouIx 1) ∗ Wt c (ouIx 2) ∗ Wt c (ouIx 3) ∗ Wt c (ouIx 4) ∗ Wt c (ouIx 5) ∗ Wt c (ouIx 6) ∗ Wt c (ouIx 7) ∗ Owe c 0)
      -∗ ((Owe c 0 ∗ ouDone m c 0 ∗ ouDone m c 1 ∗ ouDone m c 2 ∗ ouDone m c 3 ∗ ouDone m c 4 ∗ ouDone m c 5 ∗ ouDone m c 6 ∗ ouDone m c 7) -∗ Q ⟨⟩)
      -∗ run c (atArgs (k0_part37 (F := F)) c) Q) := by
  simp only [atArgs, k0_part37_eq_skeleton]
  unfold k0_part37_skel
  simp only [Prog.lift, Prog.bind_op, Prog.bind_ret, Prog.pure_eq_ret]
  iintro #HE ⟨H0, H1, H2, H3, H4, H5, H6, H7, HO⟩ Hk
  iapply (wait_out m K 0 0 rfl rfl) $$ HE H0 HO; iintro ⟨HO, H0⟩
  iapply (wait_out m K 1 0 rfl rfl) $$ HE H1 HO; iintro ⟨HO, H1⟩
  iapply (wait_out m K 2 0 rfl rfl) $$ HE H2 HO; iintro ⟨HO, H2⟩
  iapply (wait_out m K 3 0 rfl rfl) $$ HE H3 HO; iintro ⟨HO, H3⟩
  iapply (wait_out m K 4 0 rfl rfl) $$ HE H4 HO; iintro ⟨HO, H4⟩
  iapply (wait_out m K 5 0 rfl rfl) $$ HE H5 HO; iintro ⟨HO, H5⟩
  iapply (wait_out m K 6 0 rfl rfl) $$ HE H6 HO; iintro ⟨HO, H6⟩
  iapply (wait_out m K 7 0 rfl rfl) $$ HE H7 HO; iintro ⟨HO, H7⟩
  iapply run_ret
  iapply Hk
  iframe

end Parts

end Cert.Exchange

end
-- ==== Proof.Body.lean ====
/-
# One device's body

The parts in order, at a device named by a variable: what it holds when the body starts, and what it holds when the body
has waited for everything it started.
-/
module

public import proofs.«01_k».proof.Proof.Sums

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families written out -/

/-- A resource for each of five, written out. -/
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  simp only [bigSepL_cons_cons, bigSepL_singleton]
  rfl

/-- A resource for each of eight, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-- A resource for each of seventeen, written out. -/
theorem seventeen (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8
    ∗ Φ 9 ∗ Φ 10 ∗ Φ 11 ∗ Φ 12 ∗ Φ 13 ∗ Φ 14 ∗ Φ 15 ∗ Φ 16) := by
  rw [bigSep_univ_eq_bigSepL [0, 1, 2, 3, 4, 5, 6, 7, 8, 9, 10, 11, 12, 13, 14, 15, 16] (by decide) (by decide)]
  simp only [bigSepL_cons_cons, bigSepL_singleton]
  rfl

variable (m : (ℓ : Loc nD τ sig) → Buf (Elt F) ℓ) (K : Dev nD × SemLoc sig → ℕ)

/-- Programs in sequence. -/
theorem run_bind {c : Dev nD} {α β : Type} {p : Prog (TpuEff nD τ sig (Elt F) Λ₀ .tc) α} {f : α → Prog (TpuEff nD τ sig (Elt F) Λ₀ .tc) β}
    {Q : β → sProp 𝕄} : run c p (fun a => run c (f a) Q) ⊢ run c (p >>= f) Q := by
  show run c p (fun a => run c (f a) Q) ⊢ wp frame (wpE (defs₀ (F := F)) 𝒱₀ (c : Thread nD τ) none) Set.univ (p >>= f) Q
  rw [wp_bind]

/-- What a region needs before its copy out, taken apart. -/
theorem ou_open (c : Dev nD) (i : Fin 8) : (ouPre (F := F) c i : sProp 𝕄)
    ⊢ iprop(Kit c (ouIx i) ∗ (∃ f, ovR (F := F) c (rlo c i) (rn i) f) ∗ ∃ f, resR (F := F) c (rlo c i) (rn i) f) := BI.Entails.refl _

/-! ## Before and after -/

/-- What a device holds for the barrier: its duty and payload for each neighbour's unit, and its own cell. -/
def barPre (c : Dev nD) : sProp 𝕄 :=
  iprop((dutyTok ER (bcell (yp c)) 0 0 ∗ dutyTok ER (bcell (cw c)) 0 1 ∗ dutyTok ER (bcell (ccw c)) 0 2)
    ∗ (bpay (yp c) 0 ∗ bpay (cw c) 1 ∗ bpay (ccw c) 2) ∗ cred (tallyAt (bcell c) () 3) ∗ atPos ER (bcell c) 0 ∅ 0)

/-- What a device holds when its body starts. -/
def Before (c : Dev nD) : sProp 𝕄 :=
  iprop(bigSep Finset.univ (stPre m c) ∗ bigSep Finset.univ (myPre m c) ∗ bigSep Finset.univ (sbPre (F := F) c) ∗ bigSep Finset.univ (ouPre (F := F) c)
    ∗ bigSep Finset.univ (KitS (F := F) c) ∗ bigSep Finset.univ (fun l : Fin 17 => Wt (F := F) c (rIx l)) ∗ barPre (F := F) c ∗ Owe (F := F) c 20)

/-- The shares of the landed blocks that are neither kept for the additions nor lent to a send. -/
def Spares (c : Dev nD) : sProp 𝕄 :=
  iprop(Sp m c (lo c 6 + 128) 128 ∗ Sp m c (lo c 12) 128 ∗ Sp m c (lo c 7) (nn 7) ∗ Sp m c (lo c 8) (nn 8) ∗ Sp m c (lo c 9) (nn 9)
    ∗ Sp m c (lo c 10) (nn 10) ∗ Sp m c (lo c 11) (nn 11) ∗ Sp m c (lo c 14) (nn 14) ∗ Sp m c (lo c 15) (nn 15) ∗ Sp m c (lo c 16) (nn 16))

/-- What a device holds when its body ends. -/
def After (c : Dev nD) : sProp 𝕄 :=
  iprop(bigSep Finset.univ (stDone m c) ∗ myEnd m c ∗ myAll m c ∗ bigSep Finset.univ (Sent m c) ∗ bigSep Finset.univ (Got m c) ∗ Spares m c
    ∗ bigSep Finset.univ (ouDone m c) ∗ atPos ER (bcell c) (0 + 1) ∅ 0 ∗ Owe (F := F) c 0)

set_option maxHeartbeats 4000000 in
/-- The body takes a device from the one to the other. -/
theorem body_run (c : Dev nD) {Q : PUnit → sProp 𝕄} :
    env m K ⊢ iprop(Before m c -∗ (After m c -∗ |={Set.univ}=> Q ⟨⟩) -∗ run c (atArgs (cc0_body (F := F))) Q) := by
  rw [cc0_body_eq_skeleton]
  unfold atArgs cc0_body_skel Before barPre
  rw [five, five, eight, eight, seventeen, seventeen]
  iintro #HE ⟨⟨HS0, HS1, HS2, HS3, HS4⟩, ⟨HM0, HM1, HM2, HM3, HM4, HM5, HM6, HM7⟩, ⟨HB0, HB1, HB2, HB3, HB4⟩, ⟨HU0, HU1, HU2, HU3, HU4, HU5, HU6, HU7⟩, ⟨HK0, HK1, HK2, HK3, HK4, HK5, HK6, HK7, HK8, HK9, HK10, HK11, HK12, HK13, HK14, HK15, HK16⟩, ⟨HR0, HR1, HR2, HR3, HR4, HR5, HR6, HR7, HR8, HR9, HR10, HR11, HR12, HR13, HR14, HR15, HR16⟩, ⟨⟨HT0, HT1, HT2⟩, ⟨HP0, HP1, HP2⟩, HC, HA⟩, HO⟩ Hk
  iapply run_bind
  iapply (part1 m K _) $$ HE
  iintro %r %hr
  obtain ⟨d0, v2, v5, v8, v21, v31, v32, v33, w1, v34, w2⟩ := r
  replace hr : d0 = c := hr
  subst d0
  iapply run_bind
  iapply (run_pure (part2 _ _ _ _))
  iintro %r
  obtain ⟨v43, v71, w3, v72, v74, v75⟩ := r
  iapply run_bind
  iapply (run_pure (part3 _ _ _ _ _ _))
  iintro %r
  obtain ⟨v88, v99, v117⟩ := r
  iapply run_bind
  iapply (part4 m K _ _ _ _ _) $$ HE HS0
  iintro %r HS0
  obtain ⟨v127, v144⟩ := r
  iapply run_bind
  iapply (part5 m K _ _ _) $$ HE [HS1 HS2 HS3]
  · iframe
  iintro ⟨HS1, HS2, HS3⟩
  iapply run_bind
  iapply (part6 m K _) $$ HE [HS4 HM0 HM1 HM2 HM3]
  · iframe
  iintro ⟨HS4, HM0, HM1, HM2, HM3⟩
  iapply run_bind
  iapply (part7 m K _ _ _ _ _ _ _) $$ HE [HM4 HM5 HM6 HM7] [HT0 HP0 HT1 HP1 HO]
  · iframe
  · iframe
  iintro ⟨HM4, HM5, HM6, HM7, HO⟩
  iapply run_bind
  iapply (part8 m K _ _ _ _ _ _) $$ HE [HT2 HP2 HO HC HA]
  · iframe
  iintro %r ⟨HO, HA, HQ0, HQ1, HQ2⟩
  obtain ⟨v266, v267, v272⟩ := r
  unfold bpay
  icases HQ0 with ⟨HL0, HL1, HL2, HL3, HL4⟩
  icases HQ1 with ⟨HL11, HL12, HL13, HL14, HL15, HL16⟩
  icases HQ2 with ⟨HL5, HL6, HL7, HL8, HL9, HL10⟩
  iapply run_bind
  iapply (run_pure (part9 _ _ _ _))
  iintro %r
  obtain ⟨v274, v301, v302, v303, v304, v305⟩ := r
  iapply run_bind
  iapply (run_pure (part10 _ _ _ _ _ _ _))
  iintro %r
  obtain ⟨v338, v339, v340, v341⟩ := r
  iapply run_bind
  iapply (run_pure (part11 _ _ _ _ _ _))
  iintro %r
  obtain ⟨v375, v378⟩ := r
  iapply run_bind
  iapply (run_pure (part12 _ _ _))
  iintro %r
  iapply run_bind
  iapply (run_pure (part13 _ _ _))
  iintro %r
  obtain ⟨v441, v442, v447⟩ := r
  iapply run_bind
  iapply (part14 m K _ _ _ _ _ _) $$ HE [HS0 HO HB0]
  · iframe
  iintro %r ⟨HO, HS0, HB0⟩
  iapply run_bind
  iapply (part15 m K _ _ _ _ _) $$ HE [HB0 HK0 HL0 HO] [HS1 HB1 HK1 HL1]
  · iframe
  · iframe
  iintro ⟨HO, HK0, HS1, HK1⟩
  iapply run_bind
  iapply (part16 m K _ _ _ _) $$ HE [HS2 HB2 HK2 HL2 HO] [HS3 HB3]
  · iframe
  · iframe
  iintro ⟨HO, HS2, HK2, HS3, HB3⟩
  iapply run_bind
  iapply (part17 m K _ _ _ _) $$ HE [HB3 HK3 HL3 HO] [HS4 HB4]
  · iframe
  · iframe
  iintro ⟨HO, HK3, HS4, HB4⟩
  iapply run_bind
  iapply (part18 m K _ _ _ _ _ _ _ _ _) $$ HE [HK4 HB4 HL4 HO] [HR0 HK5 HL5]
  · iframe
  · iframe
  iintro ⟨HO, HK4, HR0, HK5, HX11⟩
  iapply run_bind
  iapply (part19 m K _ _ _ _ _ _ _ _ _) $$ HE [HK11 HX11 HL11 HO] [HR1 HK6 HL6]
  · iframe
  · iframe
  iintro %r ⟨HO, HK11, HR1, HK6, HX12⟩
  obtain ⟨v639, v640⟩ := r
  iapply run_bind
  iapply (part20 m K _ _ _ _ _ _ _ _ _ _) $$ HE [HK12 HX12 HL12 HO] [HR2 HK7 HL7]
  · iframe
  · iframe
  iintro %r ⟨HO, HK12, HR2, HK7, HX13⟩
  iapply run_bind
  iapply (part21 m K _ _ _ _ _ _) $$ HE [HK13 HX13 HL13 HO] [HR5 HK8 HL8]
  · iframe
  · iframe
  iintro %r ⟨HO, HK13, HR5, HK8⟩
  obtain ⟨v705, v706⟩ := r
  iapply run_bind
  iapply (part22 m K _ _ _ _ _ _ _ _) $$ HE [HR6 HK9 HL9 HO] HR12
  · iframe
  iintro %r ⟨HO, HR6, HZ6, HK9, HR12, HZ12, HX14⟩
  iapply run_bind
  iapply (part23 m K _ _ _ _ _ _ _) $$ HE [HK14 HX14 HL14 HO] [HR13 HK15 HL15]
  · iframe
  · iframe
  iintro %r ⟨HO, HK14, HR13, HK15⟩
  obtain ⟨v771, v772⟩ := r
  iapply run_bind
  iapply (part24 m K _ _ _ _ _ _ _ _ _ _) $$ HE [HR3 HK10 HL10 HO] HR4
  · iframe
  iintro %r ⟨HO, HR3, HK10, HR4, HX16⟩
  obtain ⟨v803, w4⟩ := r
  iapply run_bind
  iapply (part25 m K _ _ _ _ _) $$ HE [HK16 HX16 HL16 HO] [HM0 HM1 HM2 HM3]
  · iframe
  · iframe
  iintro ⟨HO, HK16, HM0, HM1, HM2, HM3⟩
  ihave HU0 := (ou_open c 0) $$ HU0
  ihave HU6 := (ou_open c 6) $$ HU6
  ihave HU7 := (ou_open c 7) $$ HU7
  icases HU0 with ⟨HU0, HV0, HW0⟩
  icases HU6 with ⟨HU6, HV6, HW6⟩
  icases HU7 with ⟨HU7, HV7, HW7⟩
  ihave HG0 := (Entails.of_eq (show iprop(Got m c 0 ∗ Got m c 1 ∗ Got m c 2) = gotR m c 0 from rfl)) $$ [HR0 HR1 HR2]
  · iframe
  iapply run_bind
  iapply (part26 m K _ _) $$ HE [HM4 HM5 HM6 HM7 HO] [HM0 HM1 HM2 HM3] [HG0 HV0]
  · iframe
  · iframe
  · iframe
  iintro ⟨HO, HME, HMA, HG0, HV0⟩
  ihave HG1 := (Entails.of_eq (show iprop(Got m c 3 ∗ Got m c 4) = gotR m c 1 from rfl)) $$ [HR3 HR4]
  · iframe
  iapply run_bind
  iapply (part27 m K _ _ _ _ _ _) $$ HE [HV0 HU0 HW0] [HMA HG1 HU1] [HR7 HO]
  · iframe
  · iframe
  · iframe
  iintro %r ⟨HU0, HMA, HG1, HU1, HO, HR7, HZ7⟩
  obtain ⟨v897, w5, v898, w6⟩ := r
  ihave HG2 := (Entails.of_eq (show iprop(Got m c 5 ∗ Got m c 6 ∗ Got m c 7) = gotR m c 2 from rfl)) $$ [HR5 HR6 HR7]
  · iframe
  iapply run_bind
  iapply (part28 m K _ _ _ _ _ _ _ _ _) $$ HE [HMA HG2 HU2] [HR11 HO]
  · iframe
  · iframe
  iintro %r ⟨HMA, HG2, HU2, HO, HR11, HZ11⟩
  obtain ⟨v933, w7, v934⟩ := r
  ihave HG3 := (Entails.of_eq (show iprop(Got m c 11 ∗ Got m c 12 ∗ Got m c 13) = gotR m c 3 from rfl)) $$ [HR11 HR12 HR13]
  · iframe
  iapply run_bind
  iapply (part29 m K _ _ _ _ _ _ _) $$ HE [HMA HG3 HU3] [HR8 HO]
  · iframe
  · iframe
  iintro %r ⟨HMA, HG3, HU3, HO, HR8, HZ8⟩
  iapply run_bind
  iapply (part30 m K _ _ _ _ _) $$ HE [HR9 HO] [HMA HR8 HU4]
  · iframe
  · iframe
  iintro %r ⟨HO, HZ9, HMA, HG4, HU4⟩
  iapply run_bind
  iapply (part31 m K _ _ _ _ _ _) $$ HE [HR14 HR15 HO] HMA
  · iframe
  iintro %r ⟨HO, HG5, HZ14, HZ15, HMA⟩
  iapply run_bind
  iapply (part32 m K _ _ _ _ _ _) $$ HE [HMA HG5 HU5] [HR10 HO] HV6
  · iframe
  · iframe
  iintro ⟨HMA, HG5, HU5, HO, HG6, HZ10, HV6⟩
  iapply run_bind
  iapply (part33 m K _ _ _ _ _) $$ HE [HV6 HU6 HW6] [HR16 HO] [HMA HV7]
  · iframe
  · iframe
  · iframe
  iintro ⟨HU6, HO, HZ16, HMA, HG7, HV7⟩
  iapply run_bind
  iapply (part34 m K _) $$ HE [HV7 HU7 HW7] [HK0 HK1 HK2 HK3 HK4 HO]
  · iframe
  · iframe
  iintro ⟨HU7, HO, HK0, HK1, HK2, HK3, HK4⟩
  iapply run_bind
  iapply (part35 m K _) $$ HE [HK5 HK11 HK6 HK12 HK7 HK13 HO]
  · iframe
  iintro ⟨HO, HK5, HK11, HK6, HK12, HK7, HK13⟩
  iapply run_bind
  iapply (part36 m K _) $$ HE [HK8 HK14 HK9 HK15 HK10 HK16 HO]
  · iframe
  iintro ⟨HO, HK8, HK14, HK9, HK15, HK10, HK16⟩
  iapply run_bind
  iapply (part37 m K _) $$ HE [HU0 HU1 HU2 HU3 HU4 HU5 HU6 HU7 HO]
  · iframe
  iintro ⟨HO, HU0, HU1, HU2, HU3, HU4, HU5, HU6, HU7⟩
  unfold run
  rw [Prog.pure_eq_ret, wp_ret]
  iapply Hk
  unfold After Spares
  rw [five, eight, seventeen, seventeen]
  ihave HR10 := (Entails.of_eq (show gotR m c 6 = Got m c 10 from rfl)) $$ HG6
  ihave HR16 := (Entails.of_eq (show gotR m c 7 = Got m c 16 from rfl)) $$ HG7
  ihave HG0 := (Entails.of_eq (show gotR m c 0 = iprop(Got m c 0 ∗ Got m c 1 ∗ Got m c 2) from rfl)) $$ HG0
  icases HG0 with ⟨HR0, HR1, HR2⟩
  ihave HG1 := (Entails.of_eq (show gotR m c 1 = iprop(Got m c 3 ∗ Got m c 4) from rfl)) $$ HG1
  icases HG1 with ⟨HR3, HR4⟩
  ihave HG2 := (Entails.of_eq (show gotR m c 2 = iprop(Got m c 5 ∗ Got m c 6 ∗ Got m c 7) from rfl)) $$ HG2
  icases HG2 with ⟨HR5, HR6, HR7⟩
  ihave HG3 := (Entails.of_eq (show gotR m c 3 = iprop(Got m c 11 ∗ Got m c 12 ∗ Got m c 13) from rfl)) $$ HG3
  icases HG3 with ⟨HR11, HR12, HR13⟩
  ihave HG4 := (Entails.of_eq (show gotR m c 4 = iprop(Got m c 8 ∗ Got m c 9) from rfl)) $$ HG4
  icases HG4 with ⟨HR8, HR9⟩
  ihave HG5 := (Entails.of_eq (show gotR m c 5 = iprop(Got m c 14 ∗ Got m c 15) from rfl)) $$ HG5
  icases HG5 with ⟨HR14, HR15⟩
  iframe

end Cert.Exchange

end
-- ==== Proof.Ends.lean ====
/-
# What a device is launched with and what it ends with

A device starts from its buffers whole and from its share of the ghost state dealt at launch, and ends with its buffers
whole again and every semaphore it owns at zero.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The semaphores by role -/

/-- The embedding of a family of semaphores given with its injectivity. -/
abbrev ixs {n : ℕ} (f : Fin n → Fin 55) (h : Function.Injective f) : Finset (Fin 55) := Finset.univ.map ⟨f, h⟩

/-- Each block has its own send semaphore, -/
theorem sIx_inj : Function.Injective sIx := by decide
/-- and its own receive semaphore; -/
theorem rIx_inj : Function.Injective rIx := by decide
/-- each staging copy its own, -/
theorem stIx_inj : Function.Injective stIx := by decide
/-- each copy of the own columns its own, -/
theorem myIx_inj : Function.Injective myIx := by decide
/-- and each copy out its own. -/
theorem ouIx_inj : Function.Injective ouIx := by decide

/-- The fifty-five semaphores are the sources', the landings', the stage's, the own columns' and the results'. -/
theorem by_role (Φ : Fin 55 → sProp 𝕄) : bigSep Finset.univ Φ = iprop((bigSep Finset.univ fun l => Φ (sIx l))
    ∗ (bigSep Finset.univ fun l => Φ (rIx l)) ∗ (bigSep Finset.univ fun j => Φ (stIx j))
    ∗ (bigSep Finset.univ fun k => Φ (myIx k)) ∗ bigSep Finset.univ fun i => Φ (ouIx i)) := by
  rw [show (Finset.univ : Finset (Fin 55)) = ixs sIx sIx_inj ∪ (ixs rIx rIx_inj ∪ (ixs stIx stIx_inj ∪ (ixs myIx myIx_inj ∪ ixs ouIx ouIx_inj)))
      from by decide,
    bigSep_union (by decide), bigSep_union (by decide), bigSep_union (by decide), bigSep_union (by decide)]
  simp only [bigSep_map]
  rfl

/-- A thread's semaphores are its barrier and its fifty-five. -/
theorem by_kind (Φ : SemLoc sig → sProp 𝕄) :
    bigSep Finset.univ Φ = iprop(Φ (.reg barS) ∗ bigSep Finset.univ fun i : Fin 55 => Φ (.dma (i : DmaSem sig))) := by
  have hinj : Function.Injective (fun i : Fin 55 => (.dma (i : DmaSem sig) : SemLoc sig)) := fun a b h => by cases h; rfl
  have h : (Finset.univ : Finset (SemLoc sig)) = {SemLoc.reg barS} ∪ Finset.univ.map ⟨fun i : Fin 55 => (.dma (i : DmaSem sig) : SemLoc sig), hinj⟩ := by
    ext x
    simp only [Finset.mem_univ, Finset.mem_union, Finset.mem_singleton, Finset.mem_map, Function.Embedding.coeFn_mk, true_and, true_iff]
    match x with
    | .reg s => exact Or.inl (congrArg SemLoc.reg (Subsingleton.elim (α := Fin 1) s barS))
    | .dma i => exact Or.inr ⟨i, rfl⟩
  rw [h, bigSep_union (by
    rw [Finset.disjoint_singleton_left, Finset.mem_map]
    rintro ⟨i, -, hi⟩
    cases hi), bigSep_singleton, bigSep_map]
  rfl

/-! ## The ghost state of one device -/

/-- The cell of a device and a semaphore. -/
abbrev kcell (x : Dev nD × SemLoc sig) : GSem nD τ sig := ((x.1 : Thread nD τ), x.2)

/-- The duties a device pays: its neighbours' barriers', its own transfers' sources', the landings on the devices it sends to,
    and its own copies'. -/
def payToks (c : Dev nD) : sProp 𝕄 :=
  iprop((dutyTok ER (bcell (yp c)) 0 0 ∗ dutyTok ER (bcell (cw c)) 0 1 ∗ dutyTok ER (bcell (ccw c)) 0 2)
    ∗ (bigSep Finset.univ fun l => dutyTok ER (dcell c (sIx l)) 0 0)
    ∗ (bigSep Finset.univ fun l => dutyTok ER (dcell (dest c l) (rIx l)) 0 0)
    ∗ (bigSep Finset.univ fun j => dutyTok ER (dcell c (stIx j)) 0 0)
    ∗ (bigSep Finset.univ fun k => dutyTok ER (dcell c (myIx k)) 0 0)
    ∗ bigSep Finset.univ fun i => dutyTok ER (dcell c (ouIx i)) 0 0)
/-- Those and its own cells' positions. -/
def linear (c : Dev nD) : sProp 𝕄 := iprop((bigSep Finset.univ fun sm : SemLoc sig => atPos ER (kcell (c, sm)) 0 ∅ 0) ∗ payToks (F := F) c)
/-- The credit it is launched with: three units on its barrier, every landing's amount. -/
def credits (c : Dev nD) : sProp 𝕄 :=
  iprop(cred (tallyAt (bcell c) () 3) ∗ bigSep Finset.univ fun l : Fin 17 => cred (tallyAt (dcell c (rIx l)) () (amt (role (rIx l)))))

/-! ## The memory of one device -/

/-- A device's landing rows for block `l`, with any contents, are what the sender of that block needs. -/
theorem land_intro (c d : Dev nD) (l : Fin 17) (h : dest d l = c) (f : Buf (Elt F) ((c : Thread nD τ).loc cc0_scratch0)) :
    (dR c fullShare (lo c l) (nn l) f : sProp 𝕄) ⊢ land d l := by
  subst h
  unfold land
  iintro H; iexists f; iexact H

/-- The partner's first five blocks land here. -/
theorem dest_y : ∀ c : Dev nD, dest (yp c) 0 = c ∧ dest (yp c) 1 = c ∧ dest (yp c) 2 = c ∧ dest (yp c) 3 = c ∧ dest (yp c) 4 = c := by decide
/-- The next device's last six blocks land here. -/
theorem dest_cw : ∀ c : Dev nD, dest (cw c) 11 = c ∧ dest (cw c) 12 = c ∧ dest (cw c) 13 = c ∧ dest (cw c) 14 = c ∧ dest (cw c) 15 = c ∧ dest (cw c) 16 = c := by
  decide
/-- The previous device's six blocks for its next land here. -/
theorem dest_ccw : ∀ c : Dev nD, dest (ccw c) 5 = c ∧ dest (ccw c) 6 = c ∧ dest (ccw c) 7 = c ∧ dest (ccw c) 8 = c ∧ dest (ccw c) 9 = c ∧ dest (ccw c) 10 = c := by
  decide

/-- The landing buffer whole is what the device hands its three neighbours. -/
theorem hand_out (c : Dev nD) (f : Buf (Elt F) ((c : Thread nD τ).loc cc0_scratch0)) :
    (((c : Thread nD τ).loc cc0_scratch0 ↦{fullShare} f) : sProp 𝕄) ⊢ iprop(bpay (yp c) 0 ∗ bpay (cw c) 1 ∗ bpay (ccw c) 2) := by
  rw [d_cut, seventeen]
  have hy := dest_y c; have h1 := dest_cw c; have h2 := dest_ccw c
  show _ ⊢ iprop((land (yp c) 0 ∗ land (yp c) 1 ∗ land (yp c) 2 ∗ land (yp c) 3 ∗ land (yp c) 4)
    ∗ (land (cw c) 11 ∗ land (cw c) 12 ∗ land (cw c) 13 ∗ land (cw c) 14 ∗ land (cw c) 15 ∗ land (cw c) 16)
    ∗ (land (ccw c) 5 ∗ land (ccw c) 6 ∗ land (ccw c) 7 ∗ land (ccw c) 8 ∗ land (ccw c) 9 ∗ land (ccw c) 10))
  iintro ⟨H0, H1, H2, H3, H4, H5, H6, H7, H8, H9, H10, H11, H12, H13, H14, H15, H16⟩
  ihave H0 := (land_intro c (yp c) 0 hy.1 f) $$ H0
  ihave H1 := (land_intro c (yp c) 1 hy.2.1 f) $$ H1
  ihave H2 := (land_intro c (yp c) 2 hy.2.2.1 f) $$ H2
  ihave H3 := (land_intro c (yp c) 3 hy.2.2.2.1 f) $$ H3
  ihave H4 := (land_intro c (yp c) 4 hy.2.2.2.2 f) $$ H4
  ihave H5 := (land_intro c (ccw c) 5 h2.1 f) $$ H5
  ihave H6 := (land_intro c (ccw c) 6 h2.2.1 f) $$ H6
  ihave H7 := (land_intro c (ccw c) 7 h2.2.2.1 f) $$ H7
  ihave H8 := (land_intro c (ccw c) 8 h2.2.2.2.1 f) $$ H8
  ihave H9 := (land_intro c (ccw c) 9 h2.2.2.2.2.1 f) $$ H9
  ihave H10 := (land_intro c (ccw c) 10 h2.2.2.2.2.2 f) $$ H10
  ihave H11 := (land_intro c (cw c) 11 h1.1 f) $$ H11
  ihave H12 := (land_intro c (cw c) 12 h1.2.1 f) $$ H12
  ihave H13 := (land_intro c (cw c) 13 h1.2.2.1 f) $$ H13
  ihave H14 := (land_intro c (cw c) 14 h1.2.2.2.1 f) $$ H14
  ihave H15 := (land_intro c (cw c) 15 h1.2.2.2.2.1 f) $$ H15
  ihave H16 := (land_intro c (cw c) 16 h1.2.2.2.2.2 f) $$ H16
  iframe

/-- The argument whole, lent to its thirteen readers. -/
theorem lend (c : Dev nD) : (((c : Thread nD τ).loc main_arg0 ↦{fullShare} X m c) : sProp 𝕄)
    ⊣⊢ iprop(((c : Thread nD τ).loc main_arg0 ↦{Transfers.shareDrop fullShare 13} X m c)
      ∗ (bigSep Finset.univ fun j : Fin 5 => xT m c j.val) ∗ bigSep Finset.univ fun k : Fin 8 => xT m c (5 + k.val)) := by
  have h := Transfers.pointsTo_toks_range (Val := Elt F) (U := UU) (Ix := Unit) (Name := ℕ) (Lvl := ℕ) (ℓ := (c : Thread nD τ).loc main_arg0) (S := Finset.univ) (f := X m c) fullShare 13
  have e : bigSep (Finset.range 13) (fun i => ((c : Thread nD τ).loc main_arg0 ↦{Transfers.shareTokN fullShare i} X m c : sProp 𝕄))
      = iprop((bigSep Finset.univ fun j : Fin 5 => xT m c j.val) ∗ bigSep Finset.univ fun k : Fin 8 => xT m c (5 + k.val)) := by
    rw [show Finset.range 13 = (Finset.univ.map ⟨fun j : Fin 5 => j.val, fun a b h => Fin.ext h⟩)
        ∪ Finset.univ.map ⟨fun k : Fin 8 => 5 + k.val, fun a b h => Fin.ext (by have : 5 + a.val = 5 + b.val := h; omega)⟩ from by decide,
      bigSep_union (by decide), bigSep_map, bigSep_map]
    rfl
  rw [e] at h
  exact h

/-- What holds of one value holds of some value. -/
theorem some_intro {α : Type} (Φ : α → sProp 𝕄) (a : α) : Φ a ⊢ iprop(∃ b, Φ b) := by
  iintro H; iexists a; iexact H

/-- The f32 staging buffer, as five blocks with some contents each. -/
theorem ex_sf (c : Dev nD) (f : Buf (Elt F) ((c : Thread nD τ).loc cc0_scratch1)) : (((c : Thread nD τ).loc cc0_scratch1 ↦{fullShare} f) : sProp 𝕄)
    ⊢ bigSep Finset.univ fun j : Fin 5 => iprop(∃ f, sfR c (256 * j.val) 256 f) := by
  rw [sf_cut]; exact bigSep_mono fun j _ => some_intro (fun f => sfR c (256 * j.val) 256 f) f
/-- The bf16 staging buffer, as five blocks with some contents each. -/
theorem ex_sb (c : Dev nD) (f : Buf (Elt F) ((c : Thread nD τ).loc cc0_scratch2)) : (((c : Thread nD τ).loc cc0_scratch2 ↦{fullShare} f) : sProp 𝕄)
    ⊢ bigSep Finset.univ fun j : Fin 5 => iprop(∃ f, sbR c (256 * j.val) 256 f) := by
  rw [sb_cut]; exact bigSep_mono fun j _ => some_intro (fun f => sbR c (256 * j.val) 256 f) f
/-- The buffer of the own columns, as eight blocks with some contents each. -/
theorem ex_my (c : Dev nD) (f : Buf (Elt F) ((c : Thread nD τ).loc cc0_scratch3)) : (((c : Thread nD τ).loc cc0_scratch3 ↦{fullShare} f) : sProp 𝕄)
    ⊢ bigSep Finset.univ fun k : Fin 8 => iprop(∃ f, myR c (512 * k.val) 512 f) := by
  rw [my_cut]; exact bigSep_mono fun k _ => some_intro (fun f => myR c (512 * k.val) 512 f) f
/-- The buffer of the sums, as eight regions with some contents each. -/
theorem ex_ov (c : Dev nD) (f : Buf (Elt F) ((c : Thread nD τ).loc cc0_scratch4)) : (((c : Thread nD τ).loc cc0_scratch4 ↦{fullShare} f) : sProp 𝕄)
    ⊢ bigSep Finset.univ fun i : Fin 8 => iprop(∃ f, ovR c (rlo c i) (rn i) f) := by
  rw [ov_cut]; exact bigSep_mono fun i _ => some_intro (fun f => ovR c (rlo c i) (rn i) f) f
/-- The result, as eight regions with some contents each. -/
theorem ex_res (c : Dev nD) (f : Buf (Elt F) ((c : Thread nD τ).loc main_v1)) : (((c : Thread nD τ).loc main_v1 ↦{fullShare} f) : sProp 𝕄)
    ⊢ bigSep Finset.univ fun i : Fin 8 => iprop(∃ f, resR c (rlo c i) (rn i) f) := by
  rw [res_cut]; exact bigSep_mono fun i _ => some_intro (fun f => resR c (rlo c i) (rn i) f) f

/-- The scoped buffers whole, each at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The share of the argument nobody is lent. -/
abbrev xRest (c : Dev nD) : sProp 𝕄 := ((c : Thread nD τ).loc main_arg0) ↦{Transfers.shareDrop fullShare 13} X m c

/-- From the buffers and the ghost state to what the body starts from. -/
theorem before_intro (c : Dev nD) (g : Buf (Elt F) ((c : Thread nD τ).loc main_v1)) :
    iprop((((c : Thread nD τ).loc main_arg0) ↦{fullShare} X m c) ∗ (((c : Thread nD τ).loc main_v1) ↦{fullShare} g) ∗ scratch (F := F) c
        ∗ linear (F := F) c ∗ credits (F := F) c ∗ Owe (F := F) c 20)
      ⊢ iprop(Before m c ∗ xRest m c) := by
  unfold scratch linear payToks credits Before barPre stPre myPre sbPre ouPre KitS Wt Kit
  simp only [bigSep_sep']
  rw [by_kind, by_role]
  iintro ⟨HX, HY, ⟨⟨%f0, H0⟩, ⟨%f1, H1⟩, ⟨%f2, H2⟩, ⟨%f3, H3⟩, ⟨%f4, H4⟩⟩, ⟨⟨HAb, HA1, HA2, HA3, HA4, HA5⟩, ⟨HT0, HT1, HT2⟩, HD1, HD2, HD3, HD4, HD5⟩, ⟨HC, HCs⟩, HO⟩
  ihave HX := (lend m c).1 $$ HX
  icases HX with ⟨HX, HX1, HX2⟩
  ihave H0 := (hand_out c f0) $$ H0
  icases H0 with ⟨HP0, HP1, HP2⟩
  ihave H1 := (ex_sf c f1) $$ H1
  ihave H2 := (ex_sb c f2) $$ H2
  ihave H3 := (ex_my c f3) $$ H3
  ihave H4 := (ex_ov c f4) $$ H4
  ihave HY := (ex_res c g) $$ HY
  iframe

/-! ## The end -/

/-- A cell at its last round closes with its counter at zero. -/
theorem close_one (c : Dev nD) (i : Fin 55) : iprop(env m K ∗ Dn (F := F) c i) ⊢ iprop(|={Set.univ}=> semVal (dcell c i) 0) := by
  unfold Dn
  iintro ⟨#HE, HA⟩
  iapply (Rounds.cell_close ER (xRd m) (κ := K (c, .dma (i : DmaSem sig))) (Set.mem_univ _) (fun h => h) (R := 0 + 1) (duties_later m (dcell c i)))
  isplitr; · iapply (env_cell m K c (.dma (i : DmaSem sig))); iexact HE
  iexact HA

/-- Every one of them does. -/
theorem close_all (c : Dev nD) :
    env m K ⊢ iprop((bigSep Finset.univ fun i : Fin 55 => Dn (F := F) c i) -∗ |={Set.univ}=> bigSep Finset.univ fun i : Fin 55 => semVal (dcell c i) 0) := by
  iintro #HE HD
  have h : iprop(env m K ∗ bigSep Finset.univ fun i : Fin 55 => Dn (F := F) c i) ⊢ iprop(|={Set.univ}=> bigSep Finset.univ fun i : Fin 55 => semVal (dcell c i) 0) := by
    refine (sep_mono_left (BI.bigSep_of_persistent (Finset.univ : Finset (Fin 55)) (env m K))).trans ?_
    rw [← bigSep_sep']
    exact (bigSep_mono fun i _ => close_one m K c i).trans (bigSep_fupd _ _)
  iapply h
  isplitr; · iexact HE
  iexact HD

/-- The barrier, past its one round, closes with its counter at zero. -/
theorem close_bar (c : Dev nD) : env m K ⊢ iprop(atPos ER (bcell c) (0 + 1) ∅ 0 -∗ |={Set.univ}=> semVal (bcell c) 0) := by
  iintro #HE HA
  iapply (Rounds.cell_close ER (xRd m) (κ := K (c, .reg barS)) (Set.mem_univ _) (fun h => h) (R := 0 + 1) (duties_later m (bcell c)))
  isplitr; · iapply (env_cell m K c (.reg barS)); iexact HE
  iexact HA

/-- The landing buffer whole again. -/
theorem d_join (c : Dev nD) :
    iprop(bigSep Finset.univ (Kp m c) ∗ (Src m c 5 ∗ Src m c 6 ∗ Src m c 7 ∗ Src m c 8 ∗ Src m c 9 ∗ Src m c 10 ∗ Src m c 11 ∗ Src m c 12 ∗ Src m c 13
        ∗ Src m c 14 ∗ Src m c 15 ∗ Src m c 16) ∗ Spares m c)
      ⊢ (((c : Thread nD τ).loc cc0_scratch0 ↦{fullShare} D m c) : sProp 𝕄) := by
  rw [d_cut, seventeen, seventeen]
  unfold Spares
  iintro ⟨⟨H0, H1, H2, H3, H4, H5, H6, H7, H8, H9, H10, H11, H12, H13, H14, H15, H16⟩,
    ⟨S5, S6, S7, S8, S9, S10, S11, S12, S13, S14, S15, S16⟩, P6, P12, P7, P8, P9, P10, P11, P14, P15, P16⟩
  ihave H0 := (fork0 m c).2 $$ [H0 S5 S11]
  · iframe
  ihave H1 := (fork1 m c).2 $$ [H1 S6 S12]
  · iframe
  ihave H2 := (fork2 m c).2 $$ [H2 S7 S13]
  · iframe
  ihave H3 := (fork3 m c).2 $$ [H3 S10]
  · iframe
  ihave H4 := (fork4 m c).2 $$ [H4 S16]
  · iframe
  ihave H5 := (fork5 m c).2 $$ [H5 S8]
  · iframe
  ihave H6 := (fork6 m c).2 $$ [H6 S9 P6]
  · iframe
  ihave H7 := (leftover m c 7).2 $$ [H7 P7]
  · iframe
  ihave H8 := (leftover m c 8).2 $$ [H8 P8]
  · iframe
  ihave H9 := (leftover m c 9).2 $$ [H9 P9]
  · iframe
  ihave H10 := (leftover m c 10).2 $$ [H10 P10]
  · iframe
  ihave H11 := (leftover m c 11).2 $$ [H11 P11]
  · iframe
  ihave H12 := (fork12 m c).2 $$ [H12 P12 S14]
  · iframe
  ihave H13 := (fork13 m c).2 $$ [H13 S15]
  · iframe
  ihave H14 := (leftover m c 14).2 $$ [H14 P14]
  · iframe
  ihave H15 := (leftover m c 15).2 $$ [H15 P15]
  · iframe
  ihave H16 := (leftover m c 16).2 $$ [H16 P16]
  · iframe
  iframe

/-- What the sources' cells give back: the stage's sent rows whole, and the lent shares of the landing buffer. -/
theorem sent_open (c : Dev nD) : (bigSep Finset.univ fun l : Fin 17 => pay m c (.send l)) ⊢ iprop((((c : Thread nD τ).loc cc0_scratch2) ↦{fullShare} SB m c)
    ∗ (Src m c 5 ∗ Src m c 6 ∗ Src m c 7 ∗ Src m c 8 ∗ Src m c 9 ∗ Src m c 10 ∗ Src m c 11 ∗ Src m c 12 ∗ Src m c 13
        ∗ Src m c 14 ∗ Src m c 15 ∗ Src m c 16)) := by
  rw [seventeen, sb_cut, five]
  show iprop(sbR c (256 * (0 : Fin 5).val) 256 (SB m c) ∗ sbR c (256 * (1 : Fin 5).val) 256 (SB m c) ∗ sbR c (256 * (2 : Fin 5).val) 256 (SB m c)
    ∗ sbR c (256 * (3 : Fin 5).val) 256 (SB m c) ∗ sbR c (256 * (4 : Fin 5).val) 256 (SB m c) ∗ Src m c 5 ∗ Src m c 6 ∗ Src m c 7 ∗ Src m c 8 ∗ Src m c 9
    ∗ Src m c 10 ∗ Src m c 11 ∗ Src m c 12 ∗ Src m c 13 ∗ Src m c 14 ∗ Src m c 15 ∗ Src m c 16) ⊢ _
  iintro ⟨B0, B1, B2, B3, B4, HS⟩
  isplitr [HS]; · iframe
  iexact HS

/-- What a device ends with: every semaphore at zero, the scoped buffers whole, the argument as it was and the result at the sum. -/
def Final (c : Dev nD) : sProp 𝕄 :=
  iprop((semVal (bcell c) 0 ∗ bigSep Finset.univ fun i : Fin 55 => semVal (dcell c i) 0) ∗ scratch (F := F) c
    ∗ (((c : Thread nD τ).loc main_arg0) ↦{fullShare} X m c) ∗ (((c : Thread nD τ).loc main_v1) ↦{fullShare} RES m c))

/-- What the body leaves closes every semaphore at zero and puts every buffer together again. -/
theorem after_elim (c : Dev nD) : env m K ⊢ iprop((After m c ∗ xRest m c) -∗ |={Set.univ}=> (Final m c ∗ Owe (F := F) c 0)) := by
  unfold After myEnd Final scratch stDone Sent Got ouDone
  simp only [bigSep_sep']
  iintro #HE ⟨⟨⟨HD1, HF, HX1⟩, ⟨HD2, HX2⟩, HM, ⟨HD3, HS⟩, ⟨HD4, HK⟩, HSp, ⟨HD5, HR, HV⟩, HB, HO⟩, HX⟩
  ihave HD := (Entails.of_eq (by_role (fun i => Dn (F := F) c i)).symm) $$ [HD1 HD2 HD3 HD4 HD5]
  · iframe
  imod (close_all m K c) $$ HE HD with HZ
  imod (close_bar m K c) $$ HE HB with HZb
  ihave HX := (lend m c).2 $$ [HX HX1 HX2]
  · iframe
  ihave HS := (sent_open m c) $$ HS
  icases HS with ⟨HSB, HS⟩
  ihave HL := (d_join m c) $$ [HK HS HSp]
  · iframe
  ihave HF := (Entails.of_eq (sf_cut c (SF m c)).symm) $$ HF
  ihave HR := (Entails.of_eq (res_cut c (RES m c)).symm) $$ HR
  ihave HV := (Entails.of_eq (ov_cut c (OV m c)).symm) $$ HV
  imodintro
  isplitr [HO]
  · isplitl [HZ HZb]; · iframe
    isplitr [HX HR]
    · isplitl [HL]; · iexists _; iexact HL
      isplitl [HF]; · iexists _; iexact HF
      isplitl [HSB]; · iexists _; iexact HSB
      isplitl [HM]; · iexists _; iexact HM
      iexists _; iexact HV
    · iframe
  iexact HO

end Cert.Exchange

end
-- ==== Proof.Deal.lean ====
/-
# The deal at launch

The launch mints every cell's ghost state with its owner. Here it is dealt to who uses it: a barrier's three duties to the
owner's neighbours, a landing's duty to the device that sends the block, everything else to the owner; every cell's invariant
to all. The launch's credit is computed from what each device owes.
-/
module

public import proofs.«01_k».proof.Proof.Ends

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- Different semaphores of different devices are different cells. -/
theorem kcell_inj : Function.Injective (kcell : Dev nD × SemLoc sig → GSem nD τ sig) := by
  rintro ⟨c, s⟩ ⟨c', s'⟩ h
  have h1 : c = c' := congrArg (fun g : GSem nD τ sig => g.1.1) h
  have h2 : s = s' := congrArg (fun g : GSem nD τ sig => g.2) h
  rw [h1, h2]

def allCells : Finset (GSem nD τ sig) := Finset.univ.map ⟨kcell, kcell_inj⟩

/-- A barrier's token of each of its duties; a DMA semaphore's one token. -/
abbrev tokB (x : Dev nD × Fin 3) : GSem nD τ sig × ℕ × Fin 3 := (bcell x.1, 0, x.2)
abbrev tokD (x : Dev nD × Fin 55) : GSem nD τ sig × ℕ × Fin 3 := (dcell x.1 x.2, 0, 0)

/-- Different barrier payments have different tokens. -/
theorem tokB_inj : Function.Injective tokB := by
  rintro ⟨c, s⟩ ⟨c', s'⟩ h
  have h1 : c = c' := congrArg (fun g : GSem nD τ sig × ℕ × Fin 3 => g.1.1.1) h
  have h2 : s = s' := congrArg (fun g : GSem nD τ sig × ℕ × Fin 3 => g.2.2) h
  rw [h1, h2]

/-- Different copies' payments have different tokens. -/
theorem tokD_inj : Function.Injective tokD := by
  rintro ⟨c, s⟩ ⟨c', s'⟩ h
  have h1 : c = c' := congrArg (fun g : GSem nD τ sig × ℕ × Fin 3 => g.1.1.1) h
  have h2 : (.dma (s : DmaSem sig) : SemLoc sig) = .dma (s' : DmaSem sig) := congrArg (fun g : GSem nD τ sig × ℕ × Fin 3 => g.1.2) h
  have h3 : s = s' := by injection h2
  rw [h1, h3]

def allToks : Finset (GSem nD τ sig × ℕ × Fin 3) := Finset.univ.map ⟨tokB, tokB_inj⟩ ∪ Finset.univ.map ⟨tokD, tokD_inj⟩

/-- No token is both a barrier payment's and a copy's. -/
theorem toks_disjoint : Disjoint (Finset.univ.map ⟨tokB, tokB_inj⟩) (Finset.univ.map ⟨tokD, tokD_inj⟩) := by
  rw [Finset.disjoint_left]
  intro x hb hd
  obtain ⟨y, -, rfl⟩ := Finset.mem_map.mp hb
  obtain ⟨z, -, hz⟩ := Finset.mem_map.mp hd
  have h : (.dma (z.2 : DmaSem sig) : SemLoc sig) = .reg barS := congrArg (fun g : GSem nD τ sig × ℕ × Fin 3 => g.1.2) hz
  cases h

/-- The launch's ghost state: the pipeline's and the exchange's. -/
def u₀ : UU := (initOf (Pipeline.cells cfgs cellOf_inj) (Pipeline.launchToks cfgs cellOf_inj), initOf allCells allToks)

/-- The tokens of a device's own cells. -/
def ownToks (c : Dev nD) : sProp 𝕄 :=
  iprop((bigSep Finset.univ fun d : Fin 3 => dutyTok ER (bcell c) 0 d) ∗ bigSep Finset.univ fun i : Fin 55 => dutyTok ER (dcell c i) 0 0)

/-- What the launch deals a device. -/
def G (c : Dev nD) : sProp 𝕄 :=
  iprop((bigSep Finset.univ fun s : SemLoc sig => roundState ER (xRd m) (kcell (c, s)) 0)
    ∗ (bigSep Finset.univ fun s : SemLoc sig => iprop(atPos ER (kcell (c, s)) 0 ∅ 0 ∗ reached ER (kcell (c, s)) 0)) ∗ ownToks (F := F) c)

/-- What it holds once the cells are shared out. -/
def G' (c : Dev nD) : sProp 𝕄 := iprop(∃ K, recs m K ∗ linear (F := F) c)

/-- The launch's fund, dealt out as one part for each device. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : SemLoc sig => Φ (kcell (c, s)) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks ownToks
    rw [bigSep_union toks_disjoint, bigSep_map, bigSep_map, bigSep_univ_prod, bigSep_univ_prod, bigSep_sep']
    rfl
  iintro HX
  imod (Rounds.fund ER (xRd m) allCells allToks) $$ HX with ⟨Hst, Hr, Hat, Htok⟩
  imodintro
  ihave Hst := (Entails.of_eq (hX fun g => roundState ER (xRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ## Allocation -/

/-- The kernel's own semaphores, at its region's exit. -/
def osem : Fin 55 → SemLoc sig := fun i => .dma (i : DmaSem sig)

/-- The kernel's own semaphores of a device, all at zero, as cells. -/
theorem ownSems0_eq (c : Dev nD) : (Pipeline.ownSems0 (Ix := Unit) (Name := ℕ) (U := UU) (Lvl := ℕ) (Val := Elt F) (τ := τ) osem c : sProp 𝕄)
    = bigSep Finset.univ fun i : Fin 55 => semVal (dcell c i) 0 := rfl

/-- The one other semaphore of a device, at zero, is its barrier. -/
theorem unscopedSems0_eq (c : Dev nD) : (unscopedSems0 c : sProp 𝕄) = semVal (bcell c) 0 := by
  unfold unscopedSems0; rw [bigSep_eq_bigSepL_of_eq [SemLoc.reg barS] (by decide) (by decide)]; rfl

/-- A counter at zero and its round's state make a cell with its invariant. -/
theorem alloc_one (x : Dev nD × SemLoc sig) : iprop(semVal (kcell x) 0 ∗ roundState ER (xRd m) (kcell x) 0)
    ⊢ (|={Set.univ}=> iprop(∃ κ : ℕ, cellInv ER (xRd m) κ (kcell x)) : sProp 𝕄) :=
  (Rounds.body_intro ER (xRd m) (kcell x)).trans inv_alloc

/-- All of a device's semaphores become cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (xRd m) κ (kcell (c, s))))
          ∗ ((bigSep Finset.univ fun s : SemLoc sig => atPos ER (kcell (c, s)) 0 ∅ 0) ∗ bigSep Finset.univ fun s : SemLoc sig => reached ER (kcell (c, s)) 0)
          ∗ ownToks (F := F) c) := by
  unfold G
  rw [ownSems0_eq, unscopedSems0_eq, bigSep_sep']
  iintro ⟨Hos, Hus, Hst, Hat, Htok⟩
  ihave Hv := (Entails.of_eq (by_kind (fun s => (semVal (kcell (c, s)) 0 : sProp 𝕄))).symm) $$ [Hos Hus]
  · iframe
  have h : iprop((bigSep Finset.univ fun s : SemLoc sig => semVal (kcell (c, s)) 0) ∗ bigSep Finset.univ fun s : SemLoc sig => roundState ER (xRd m) (kcell (c, s)) 0)
      ⊢ (|={Set.univ}=> bigSep Finset.univ fun s : SemLoc sig => iprop(∃ κ : ℕ, cellInv ER (xRd m) κ (kcell (c, s))) : sProp 𝕄) := by
    rw [← bigSep_sep']
    exact (bigSep_mono fun s _ => alloc_one m (c, s)).trans (bigSep_fupd _ _)
  imod h $$ [Hv Hst] with Hinv
  · iframe
  imodintro
  iframe

/-! ## The tokens go round -/

/-- Sending block `l` from `c` and receiving it at `dest c l`. -/
def sendE : Dev nD × Fin 17 ≃ Dev nD × Fin 17 :=
  ⟨fun x => (dest x.1 x.2, x.2), fun x => (orig x.1 x.2, x.2), fun x => Prod.ext (orig_dest x.1 x.2) rfl, fun x => Prod.ext (dest_orig x.1 x.2) rfl⟩

/-- Every landing's token by the device it lands on is every landing's token by the device that sends it. -/
theorem recv_round : (bigSep Finset.univ fun c : Dev nD => bigSep Finset.univ fun l : Fin 17 => (dutyTok ER (dcell c (rIx l)) 0 0 : sProp 𝕄))
    = bigSep Finset.univ fun c : Dev nD => bigSep Finset.univ fun l : Fin 17 => dutyTok ER (dcell (dest c l) (rIx l)) 0 0 := by
  rw [← bigSep_univ_prod (fun x : Dev nD × Fin 17 => (dutyTok ER (dcell x.1 (rIx x.2)) 0 0 : sProp 𝕄)),
    bigSep_univ_equiv sendE (fun x : Dev nD × Fin 17 => (dutyTok ER (dcell x.1 (rIx x.2)) 0 0 : sProp 𝕄)), bigSep_univ_prod]
  rfl

/-- A resource for each of three, written out. -/
theorem three (Φ : Fin 3 → sProp 𝕄) : bigSep Finset.univ Φ = iprop(Φ 0 ∗ Φ 1 ∗ Φ 2) :=
  bigSep_univ_eq_bigSepL [0, 1, 2] (by decide) (by decide) Φ

/-- Each cell's tokens go to those who pay it. -/
theorem deal : (bigSep Finset.univ fun c : Dev nD => ownToks (F := F) c) ⊢ bigSep Finset.univ fun c : Dev nD => payToks (F := F) c := by
  have e : (fun c : Dev nD => ownToks (F := F) c) = fun c => iprop((dutyTok ER (bcell c) 0 0 ∗ dutyTok ER (bcell c) 0 1 ∗ dutyTok ER (bcell c) 0 2)
    ∗ (bigSep Finset.univ fun l => dutyTok ER (dcell c (sIx l)) 0 0)
    ∗ (bigSep Finset.univ fun l => dutyTok ER (dcell c (rIx l)) 0 0)
    ∗ (bigSep Finset.univ fun j => dutyTok ER (dcell c (stIx j)) 0 0)
    ∗ (bigSep Finset.univ fun k => dutyTok ER (dcell c (myIx k)) 0 0)
    ∗ bigSep Finset.univ fun i => dutyTok ER (dcell c (ouIx i)) 0 0) := by
    funext c; unfold ownToks; rw [three, by_role]
  rw [e]
  unfold payToks
  simp only [bigSep_sep']
  have hy : (bigSep Finset.univ fun c : Dev nD => (dutyTok ER (bcell c) 0 0 : sProp 𝕄)) = bigSep Finset.univ fun c : Dev nD => dutyTok ER (bcell (yp c)) 0 0 :=
    bigSep_univ_equiv ypE (fun c : Dev nD => (dutyTok ER (bcell c) 0 0 : sProp 𝕄))
  have h1 : (bigSep Finset.univ fun c : Dev nD => (dutyTok ER (bcell c) 0 1 : sProp 𝕄)) = bigSep Finset.univ fun c : Dev nD => dutyTok ER (bcell (cw c)) 0 1 :=
    bigSep_univ_equiv cwE (fun c : Dev nD => (dutyTok ER (bcell c) 0 1 : sProp 𝕄))
  have h2 : (bigSep Finset.univ fun c : Dev nD => (dutyTok ER (bcell c) 0 2 : sProp 𝕄)) = bigSep Finset.univ fun c : Dev nD => dutyTok ER (bcell (ccw c)) 0 2 :=
    bigSep_univ_equiv ccwE (fun c : Dev nD => (dutyTok ER (bcell c) 0 2 : sProp 𝕄))
  rw [recv_round, hy, h1, h2]

/-- A fact that can be copied may be used for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices share and a device's own part make its part of the launch. -/
theorem G'_intro (K : Dev nD × SemLoc sig → ℕ) (c : Dev nD) : iprop(recs m K ∗ linear (F := F) c) ⊢ G' m c := by
  unfold G'; iintro H; iexists K; iexact H

/-- Cells, positions and tokens of all devices, regrouped as each device's part of the launch. -/
theorem regroup :
    (bigSep Finset.univ fun c : Dev nD => iprop((bigSep Finset.univ fun s : SemLoc sig => iprop(∃ κ : ℕ, cellInv ER (xRd m) κ (kcell (c, s))))
          ∗ ((bigSep Finset.univ fun s : SemLoc sig => atPos ER (kcell (c, s)) 0 ∅ 0) ∗ bigSep Finset.univ fun s : SemLoc sig => reached ER (kcell (c, s)) 0)
          ∗ ownToks (F := F) c) : sProp 𝕄) ⊢ bigSep Finset.univ (G' m) := by
  rw [bigSep_sep', bigSep_sep', bigSep_sep', ← bigSep_univ_prod (fun x : Dev nD × SemLoc sig => iprop(∃ κ : ℕ, cellInv ER (xRd m) κ (kcell x))),
    ← bigSep_univ_prod (fun x : Dev nD × SemLoc sig => (reached ER (kcell x) 0 : sProp 𝕄))]
  iintro ⟨HI, ⟨Hat, #HR⟩, Htok⟩
  ihave HK := (BI.bigSep_exists_pi Finset.univ (fun (x : Dev nD × SemLoc sig) (κ : ℕ) => (cellInv ER (xRd m) κ (kcell x) : sProp 𝕄))) $$ HI
  icases HK with ⟨%K, #HI⟩
  ihave Htok := (deal (F := F)) $$ Htok
  iapply (with_persistent (R := recs m K) fun c _ => G'_intro m K c)
  isplitr
  · iapply (show iprop((bigSep Finset.univ fun x : Dev nD × SemLoc sig => cellInv ER (xRd m) (K x) (kcell x)) ∗ bigSep Finset.univ fun x : Dev nD × SemLoc sig => reached ER (kcell x) 0)
        ⊢ recs m K from by rw [← bigSep_sep']; exact Entails.of_eq rfl)
    isplitl; · iexact HI
    iexact HR
  · iapply (show iprop((bigSep Finset.univ fun c : Dev nD => bigSep Finset.univ fun s : SemLoc sig => atPos ER (kcell (c, s)) 0 ∅ 0) ∗ bigSep Finset.univ fun c : Dev nD => payToks (F := F) c)
        ⊢ bigSep Finset.univ fun c : Dev nD => linear (F := F) c from by rw [← bigSep_sep']; exact Entails.of_eq rfl)
    iframe

/-- All devices' semaphores at once become cells, dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit the `k`-th last payments come to, by the device they are paid to. -/
def got (c : Dev nD) (k : ℕ) : sProp 𝕄 :=
  if h : k < 17 then cred (tallyAt (dcell c (rIx (sentL ⟨k, h⟩))) () (amt (role (rIx (sentL ⟨k, h⟩)))))
  else cred (tallyAt (bcell c) () 1)

/-- Every device owing one tally on semaphore `s` of another, each device is launched with the credit for its own. -/
theorem cred_sem (s : SemLoc sig) (f finv : Dev nD → Dev nD) (h1 : ∀ c, f (finv c) = c) (h2 : ∀ d, finv (f d) = d) (n : ℕ) (c : Dev nD) :
    (Pipeline.launchCred (fun d => tallyAt (kcell (f d, s)) () n) c : sProp 𝕄) ⊢ cred (tallyAt (kcell (c, s)) () n) :=
  Pipeline.launchCred_tallyAt s f finv h1 h2 () n c

/-- A launch in which every device owes a block to its receiver gives each device the credit for the block it receives. -/
theorem cred_block (l : Fin 17) (n : ℕ) (c : Dev nD) :
    (Pipeline.launchCred (fun d => tallyAt (dcell (dest d l) (rIx l)) () n) c : sProp 𝕄) ⊢ cred (tallyAt (dcell c (rIx l)) () n) := by
  have h := cred_sem (F := F) (.dma (rIx l : DmaSem sig)) (fun d => dest d l) (fun d => orig d l) (fun d => dest_orig d l) (fun d => orig_dest d l) n c
  exact h

/-- The credit for the `k`-th last payment. -/
theorem got_intro (k : ℕ) (c : Dev nD) : (Pipeline.launchCred (fun d => due d k) c : sProp 𝕄) ⊢ got c k := by
  unfold due got
  by_cases h : k < 17
  · simp only [dif_pos h]
    generalize sentL ⟨k, h⟩ = l
    rw [role_rIx]
    have h := cred_block (F := F) l (amt (.recv l)) c
    exact h
  · simp only [dif_neg h]
    by_cases h1 : k = 17
    · simp only [if_pos h1]; exact cred_sem (.reg barS) ccw cw ccw_cw cw_ccw 1 c
    · simp only [if_neg h1]
      by_cases h2 : k = 18
      · simp only [if_pos h2]; exact cred_sem (.reg barS) cw ccw cw_ccw ccw_cw 1 c
      · simp only [if_neg h2]; exact cred_sem (.reg barS) yp yp yp_yp yp_yp 1 c

/-- What `n` payments to go come to. -/
def gots (c : Dev nD) : ℕ → sProp 𝕄
  | 0 => iprop(emp)
  | n + 1 => iprop(gots c n ∗ got c n)

/-- The credits for the last `n` payments. -/
theorem gots_intro (c : Dev nD) : ∀ n, (Pipeline.launchCred (fun d => Ow d n) c : sProp 𝕄) ⊢ gots c n
  | 0 => by iintro -; unfold gots; iempintro
  | n + 1 => by
    show (Pipeline.launchCred (fun d => Ow d n + due d n) c : sProp 𝕄) ⊢ iprop(gots c n ∗ got c n)
    rw [Pipeline.launchCred_add]
    exact BI.sep_mono (gots_intro c n) (got_intro n c)

/-- The credit for the `k`-th last payment is that of the block it sends. -/
theorem got_block (c : Dev nD) (k : ℕ) (h : k < 17) (l : Fin 17) (hl : sentL ⟨k, h⟩ = l) :
    (got c k : sProp 𝕄) ⊢ cred (tallyAt (dcell c (rIx l)) () (amt (role (rIx l)))) := by
  subst hl; unfold got; rw [dif_pos h]

/-- All of a device's credits, from the launch's. -/
theorem credits_intro (c : Dev nD) : (Pipeline.launchCred (fun d => Ow d 20) c : sProp 𝕄) ⊢ credits (F := F) c := by
  refine (gots_intro c 20).trans ?_
  unfold credits
  rw [seventeen]
  have h3 : iprop(cred (tallyAt (bcell c) () 1) ∗ cred (tallyAt (bcell c) () 1) ∗ cred (tallyAt (bcell c) () 1)) ⊢ (cred (tallyAt (bcell c) () 3) : sProp 𝕄) := by
    rw [show (tallyAt (bcell c) () 3 : CellTallies nD τ sig Unit) = tallyAt (bcell c) () 1 + (tallyAt (bcell c) () 1 + tallyAt (bcell c) () 1) from by
      rw [tallyAt_add, tallyAt_add]]
    exact (sep_mono_right (cred_add _ _).2).trans (cred_add _ _).2
  show iprop((((((((((((((((((((emp ∗ got c 0) ∗ got c 1) ∗ got c 2) ∗ got c 3) ∗ got c 4) ∗ got c 5) ∗ got c 6) ∗ got c 7) ∗ got c 8) ∗ got c 9) ∗ got c 10)
    ∗ got c 11) ∗ got c 12) ∗ got c 13) ∗ got c 14) ∗ got c 15) ∗ got c 16) ∗ cred (tallyAt (bcell c) () 1)) ∗ cred (tallyAt (bcell c) () 1)) ∗ cred (tallyAt (bcell c) () 1)) ⊢ _
  iintro ⟨⟨⟨⟨⟨⟨⟨⟨⟨⟨⟨⟨⟨⟨⟨⟨⟨⟨⟨⟨-, H16⟩, H10⟩, H15⟩, H14⟩, H9⟩, H8⟩, H13⟩, H7⟩, H12⟩, H6⟩, H11⟩, H5⟩, H4⟩, H3⟩, H2⟩, H1⟩, H0⟩, B0⟩, B1⟩, B2⟩
  isplitl [B0 B1 B2]
  · iapply h3; iframe
  isplitl [H0]; · iapply (got_block c 16 (by decide) 0 rfl); iexact H0
  isplitl [H1]; · iapply (got_block c 15 (by decide) 1 rfl); iexact H1
  isplitl [H2]; · iapply (got_block c 14 (by decide) 2 rfl); iexact H2
  isplitl [H3]; · iapply (got_block c 13 (by decide) 3 rfl); iexact H3
  isplitl [H4]; · iapply (got_block c 12 (by decide) 4 rfl); iexact H4
  isplitl [H5]; · iapply (got_block c 11 (by decide) 5 rfl); iexact H5
  isplitl [H6]; · iapply (got_block c 9 (by decide) 6 rfl); iexact H6
  isplitl [H7]; · iapply (got_block c 7 (by decide) 7 rfl); iexact H7
  isplitl [H8]; · iapply (got_block c 5 (by decide) 8 rfl); iexact H8
  isplitl [H9]; · iapply (got_block c 4 (by decide) 9 rfl); iexact H9
  isplitl [H10]; · iapply (got_block c 1 (by decide) 10 rfl); iexact H10
  isplitl [H11]; · iapply (got_block c 10 (by decide) 11 rfl); iexact H11
  isplitl [H12]; · iapply (got_block c 8 (by decide) 12 rfl); iexact H12
  isplitl [H13]; · iapply (got_block c 6 (by decide) 13 rfl); iexact H13
  isplitl [H14]; · iapply (got_block c 3 (by decide) 14 rfl); iexact H14
  isplitl [H15]; · iapply (got_block c 2 (by decide) 15 rfl); iexact H15
  iapply (got_block c 0 (by decide) 16 rfl); iexact H16

end Cert.Exchange

end
-- ==== Proof.Run.lean ====
/-
# The run

Every fair execution of the program on the mesh terminates with every semaphore at zero, the argument as it was, and the
result of every device at the sums the contents name.
-/
module

public import proofs.«01_k».proof.Proof.Deal
public import proofs.«01_k».proof.Proof.Gen.KernelIdeal.Launch
public import Idealize.ShloMosaic.Lib.Pipeline.CollectiveSegs
public import Idealize.ShloMosaic.Adequacy
public import Idealize.ShloMosaic.Init

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What the region starts from: the deal, the credit, the levels, the argument and the result's buffer. -/
def start (c : Dev nD) : sProp 𝕄 :=
  iprop(G' m c ∗ credits (F := F) c ∗ levAts L lv ∗ (((c : Thread nD τ).loc main_arg0) ↦{fullShare} X m c)
    ∗ (((c : Thread nD τ).loc main_v1) ↦{fullShare} m ((c : Thread nD τ).loc main_v1)))

/-- The region's proof data: no windows; before the body the start and the scoped buffers, after it the end. -/
def dats (_ : Fin 1) (c : Dev nD) : Dat τ (Elt F) Unit ℕ UU ℕ cfg0 c where
  A w := w.elim0
  after w := w.elim0
  Φ t := if t.val = 0 then iprop(start m c ∗ scratch (F := F) c) else Final m c
  q w := w.elim0
  owed t := if t.val = 0 then Ow c 20 else 0

/-- A resource for each of none is nothing. -/
theorem bigSep_none (Φ : Fin 0 → sProp 𝕄) : bigSep Finset.univ Φ = (BI.emp : sProp 𝕄) := bigSep_univ_eq_bigSepL [] (by decide) (by decide) Φ

/-- The body from the region's start to its end. -/
theorem body_ends (c : Dev nD) : iprop((start m c ∗ scratch (F := F) c) ∗ Owe (F := F) c 20)
    ⊢ run c (atArgs (cc0_body (F := F))) (fun _ => iprop(Final m c ∗ Owe (F := F) c 0)) := by
  unfold start G'
  iintro ⟨⟨⟨⟨%K, #HR, HL⟩, HC, #HV, HX, HY⟩, HS⟩, HO⟩
  ihave #HE := (show iprop(recs m K ∗ levAts L lv) ⊢ env m K from Entails.of_eq rfl) $$ [HR HV]
  · isplitr; · iexact HR
    iexact HV
  ihave HB := (before_intro m c (m ((c : Thread nD τ).loc main_v1))) $$ [HX HY HS HL HC HO]
  · iframe
  icases HB with ⟨HB, HX⟩
  iapply (body_run m K c) $$ HE HB
  iintro HA
  ihave HF := (after_elim m K c) $$ HE
  iapply HF
  iframe

set_option maxRecDepth 8000 in
/-- The body of one device does what the launch asks of it. -/
theorem body_obligation (c : Dev nD) : BodyObligation (dats (F := F) m 0 c) (defs₀ (F := F)) 𝒱₀ () Set.univ := fun t => by
  rw [fin_N0 t, bigSep_none, bigSep_none]
  show iprop((start m c ∗ scratch (F := F) c) ∗ (dats m 0 c).owesAt () t0_0.castSucc ∗ emp)
    ⊢ run c (atArgs (cc0_body (F := F))) (fun _ => iprop(Final m c ∗ (dats m 0 c).owesAt () t0_0.succ ∗ emp))
  unfold Dat.owesAt Pipeline.owesWithin
  rw [show (dats m 0 c).owed t0_0.castSucc = Ow c 20 from rfl, show (dats m 0 c).owed t0_0.succ = 0 from rfl]
  iintro ⟨HS, ⟨%W, -, HO⟩, -⟩
  ihave HW := (body_ends m c) $$ [HS HO]
  · isplitl [HS]; · iexact HS
    unfold Owe; iexists W; iexact HO
  unfold Owe
  iapply (wp_wand _ _ _) $$ HW
  iintro %r ⟨HF, ⟨%W', HO⟩⟩
  isplitl [HF]; · iexact HF
  isplitl; · iexists W'; isplitr; · (ipureintro; exact fun _ _ => Or.inl trivial)
             iexact HO
  iempintro

/-! ## The launch -/

/-- The kernel's own semaphores are listed once each. -/
theorem ownSemFacts : Pipeline.OwnSemFacts cfg0.spec osem := by decide

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred (fun d => Ow d 20) c ∗ prngReg c (ρ c) ∗ G' m c)
      ⊢ |={Set.univ}=> iprop(start m c ∗ emp) := by
  rw [Pipeline.unscopedRestP_none, unscopedRest0_eq]
  iintro ⟨⟨HX, HY⟩, Hlev, Hcr, -, HG⟩
  ihave Hc := (credits_intro (F := F) c) $$ Hcr
  imodintro
  unfold start
  isplitl
  · iframe
  · iempintro

/-- With the scratch buffers, it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scopedRest0_eq]
  unfold scratch
  iintro ⟨Hs, -, Hr⟩
  iframe

/-- What is left of a device once its region is done. -/
def done (c : Dev nD) : sProp 𝕄 :=
  iprop(unscopedSems0 c ∗ (((c : Thread nD τ).loc main_arg0) ↦{fullShare} X m c) ∗ (((c : Thread nD τ).loc main_v1) ↦{fullShare} RES m c))

/-- What the body leaves: the finished device, its semaphores at zero, and the scratch buffers. -/
theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Final m c from rfl, scopedRest0_eq]
  unfold done Final scratch
  rw [ownSems0_eq, unscopedSems0_eq]
  iintro ⟨⟨HB, HZ⟩, HS, HX, HY⟩
  iframe

/-- The kernel's one grid step has nothing to wait for. -/
theorem waits (c : Dev nD) : (levAts L lv : sProp 𝕄) ⊢ Pipeline.cellsWaits cfgs (dats m) () 0 c :=
  Pipeline.cellsWaits_intro cfgs (dats m) () 0 c fun w => w.elim0

/-- A buffer that is held has its contents in the memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Finset.univ : Finset (Fin 1)) (fun _ => ℓ) (fun _ => f) s'
  rw [bigSep_univ_eq_bigSepL [0] (by decide) (by decide), bigSepL_singleton] at h
  refine h.trans (sep_mono_left ?_)
  iintro %h
  ipureintro; exact h 0 (Finset.mem_univ _)

/-- A finished device's memory: its counters at zero, its argument unchanged, its result the sums. -/
theorem read_done (c : Dev nD) (s' : Phys nD τ sig (Elt F)) :
    iprop(done m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg0) = X m c ∧ s'.mem.mem ((c : Thread nD τ).loc main_v1) = RES m c⌝ ∗ SI s') := by
  unfold done
  iintro ⟨⟨HZ, HX, HY⟩, -, HSI⟩
  ihave H := (read_one _ _ s') $$ [HX HSI]
  · isplitl [HX] <;> iassumption
  icases H with ⟨%hx, HSI⟩
  ihave H := (read_one _ _ s') $$ [HY HSI]
  · isplitl [HY] <;> iassumption
  icases H with ⟨%hy, HSI⟩
  imod (Pipeline.unscopedSems0_read (X := unscopedSems0 c) (c := c) fupd_intro s') $$ [HZ HSI] with ⟨%hz, HSI⟩
  · isplitl [HZ] <;> iassumption
  imodintro
  isplitr; · (ipureintro; exact ⟨hz, hx, hy⟩)
  iexact HSI

/-- What every final state has: each device's argument as it was, its result at the sums. -/
def Ends (m : (ℓ : Loc nD τ sig) → Buf (Elt F) ℓ) (r : PUnit × MemSt nD τ sig (Elt F)) : Prop :=
  ∀ c : Dev nD, r.2.mem ((c : Thread nD τ).loc main_arg0) = X m c ∧ r.2.mem ((c : Thread nD τ).loc main_v1) = RES m c

set_option maxRecDepth 8000 in
/-- For any float values, from any memory with zero counters: every fair execution of the program terminates, and every
    final state has each device's result at the sums the contents name, its argument unchanged and every semaphore at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => Ow d 20) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = X m c ∧ s.mem ((c : Thread nD τ).loc main_v1) = RES m c)
    (hY := read_done m)
    (hQ := fun _ h hs => ⟨fun c => (h c).2.2.2, sem_eq_zero hs fun c => (h c).2.2.1⟩)

end Cert.Exchange

end
-- ==== Proof.Value.lean ====
/-
# The value

Over the extended reals, with device `c` holding slab `yy c` of the whole array, the sums the exchange leaves on device `c`
are columns `1024 * yy c …` of the two slabs' sum, which is what the reference computes.
-/
module

public import proofs.«01_k».proof.Defs
public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.Exchange

open Cert.KernelIdeal Cert.KernelIdeal.Gen
open Idealize.ShloMosaic Idealize.ShloMosaic.TcCoe Idealize.SL.Sem

/-- The whole array: two slabs of 4096 by 2048. -/
abbrev Whole : Type := (⟨3, ![2, 4096, 2048]⟩ : Shape).Idx → EReal

/-- Its entry at slab `y`, row `r`, column `k`. -/
def wat (W : Whole) (y r k : ℕ) : EReal :=
  W (ix3 ⟨y % 2, Nat.mod_lt _ (by decide)⟩ ⟨r % 4096, Nat.mod_lt _ (by decide)⟩ ⟨k % 2048, Nat.mod_lt _ (by decide)⟩)

variable (m : (ℓ : Loc nD τ sig) → Buf (Elt Ideal) ℓ) (W : Whole)

/-- Each device holds its ring's slab. -/
def Holds : Prop := ∀ c : Dev nD,
  m ((c : Thread nD τ).loc main_arg0) = Layout.blockN ⟨3, ![1, 4096, 2048]⟩ ⟨3, ![2, 4096, 2048]⟩ (Layout.meshBlock [2, 2, 2] ![[1], [], []] c) W

/-- The index of a device's block along the axis y is its ring. -/
theorem lin_y (c : Dev nD) : Layout.meshLin [2, 2, 2] c.val [1] = yy c := by
  revert c; decide

/-- A device's entry is its slab's. -/
theorem xat_eq (h : Holds m W) (c : Dev nD) (r k : ℕ) : xat m c r k = wat W (yy c) r k := by
  unfold xat X wat
  rw [h c, Layout.blockN_apply]
  refine congrArg W (funext fun a => Fin.ext ?_)
  rw [Layout.TilesN.idx_val]
  fin_cases a
  · show Layout.meshLin [2, 2, 2] c.val [1] * 1 + 0 = yy c % 2
    rw [lin_y, Nat.mod_eq_of_lt (yy_lt c), Nat.mul_one, Nat.add_zero]
  · show 0 * 4096 + r % 4096 = r % 4096
    omega
  · show 0 * 2048 + k % 2048 = k % 2048
    omega

/-- The device a row comes from is on the other ring. -/
theorem yy_devAt (q y : ℕ) : yy (devAt q y) = y % 2 := by
  unfold yy devAt; dsimp only
  have h : q % 4 / 2 < 2 := by omega
  generalize (q % 4 + q % 4 / 2) % 2 = a
  generalize q % 4 / 2 = e at h
  omega

/-- The sum at a row and a column is the two slabs' sum there. -/
theorem sum_eq (h : Holds m W) (c : Dev nD) (r k : ℕ) :
    sumAt m c r k = wat W 0 r (1024 * yy c + k) + wat W 1 r (1024 * yy c + k) := by
  show xat m c r (1024 * yy c + k) + xat m (devAt (own (pos c) r) (1 - yy c)) r (1024 * yy c + k) = _
  rw [xat_eq m W h, xat_eq m W h, yy_devAt]
  rcases (show yy c = 0 ∨ yy c = 1 by have := yy_lt c; omega) with hy | hy
  · rw [hy]
  · rw [hy]; exact add_comm _ _

/-- What the reference leaves. -/
abbrev refSum (W : Whole) : (⟨2, ![4096, 2048]⟩ : Shape).Idx → EReal :=
  Host.reduceAdd (F := Ideal) (φ := .f32) W (constant Cert.ReferenceIdeal.S_ .f32 0x00000000#32) Cert.ReferenceIdeal.Gen.reducesTo_S2x4096x2048_S4096x2048_d0
    Cert.ReferenceIdeal.Gen.h_S_

/-- The reference's sum over the slabs, at an index. -/
theorem ref_eq (W : Whole) (j : (⟨2, ![4096, 2048]⟩ : Shape).Idx) :
    refSum W j
      = wat W 0 (j 0).val (j 1).val + wat W 1 (j 0).val (j 1).val := by
  have h0 : (constant Cert.ReferenceIdeal.S_ .f32 0x00000000#32 : Cert.ReferenceIdeal.S_.Idx → Ideal .f32) (Shape.Idx.first Cert.ReferenceIdeal.Gen.h_S_) = (0 : EReal) := by
    show Ideal.ofBits .f32 0x00000000#32 = 0
    simp [Ideal.ofBits, Ideal.ieee]
  unfold refSum
  rw [Host.reduceAdd_apply, h0, Ideal.hostReduceAdd_def, Ideal.hostReduceAdd_r3_a0, zero_add, Fin.sum_univ_two]
  have hk : ∀ y : Fin 2, wat W y.val (j 0).val (j 1).val = W (ix3 y (j 0) (j 1)) := fun y => by
    unfold wat
    congr 2
    · exact Fin.ext (Nat.mod_eq_of_lt y.isLt)
    · exact Fin.ext (Nat.mod_eq_of_lt (j 0).isLt)
    · exact Fin.ext (Nat.mod_eq_of_lt (j 1).isLt)
  have e0 := hk 0
  have e1 := hk 1
  exact (congrArg₂ (· + ·) e0 e1).symm

/-- Each device's result is its column block of the reference's. -/
theorem res_eq (h : Holds m W) (c : Dev nD) :
    RES m c = Layout.blockN ⟨2, ![4096, 1024]⟩ ⟨2, ![4096, 2048]⟩ (Layout.meshBlock [2, 2, 2] ![[], [1]] c) (refSum W) := by
  funext i
  rw [Layout.blockN_apply]
  show sumAt m c (i 0).val (i 1).val = _
  rw [sum_eq m W h, ref_eq, Layout.TilesN.idx_val, Layout.TilesN.idx_val]
  have e0 : (0 : ℕ) * 4096 + (i 0).val = (i 0).val := by rw [Nat.zero_mul, Nat.zero_add]
  have e1 : Layout.meshLin [2, 2, 2] c.val [1] * 1024 + (i 1).val = 1024 * yy c + (i 1).val :=
    congrArg (· + (i 1).val) (by rw [lin_y c, Nat.mul_comm])
  show _ = wat W 0 (0 * 4096 + (i 0).val) (Layout.meshLin [2, 2, 2] c.val [1] * 1024 + (i 1).val)
    + wat W 1 (0 * 4096 + (i 0).val) (Layout.meshLin [2, 2, 2] c.val [1] * 1024 + (i 1).val)
  rw [e0, e1]

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program as printed runs, leaves its argument unchanged and every semaphore at zero. -/
theorem frame_kernel : Cert.quiescent_Kernel := fun m g _ =>
  (θ_run Cert.KernelIdeal.defs _ _).mono (fun _ h => ⟨fun c => (h.1 c).1, h.2⟩) (Cert.Exchange.run_main (F := Bits) m g)

/-- So does its ideal. -/
theorem frame_ideal : Cert.quiescent_KernelIdeal := fun m g _ =>
  (θ_run Cert.KernelIdeal.defs _ _).mono (fun _ h => ⟨fun c => (h.1 c).1, h.2⟩) (Cert.Exchange.run_main (F := Ideal) m g)

/-- So does the reference. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- From slabs of one array, each device's result is its columns of the reference's. -/
theorem values : Cert.algebraic_KernelIdeal_ReferenceIdeal := fun m g m' g' _ hin =>
  ⟨Cert.Exchange.refSum (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.Exchange.res_eq m _ hin c), (h.1 c).1⟩)
      (Cert.Exchange.run_main (F := Ideal) m g),
    (θ_run Cert.ReferenceIdeal.defs _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, values⟩

end Cert.Proof

end
